-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S4x4096x512 : Shape := ⟨3, ![4, 4096, 512]⟩
abbrev S8x512x256 : Shape := ⟨3, ![8, 512, 256]⟩
abbrev S2 : Shape := ⟨1, ![2]⟩
abbrev S4x2x2 : Shape := ⟨3, ![4, 2, 2]⟩
abbrev S8 : Shape := ⟨1, ![8]⟩
abbrev S1 : Shape := ⟨1, ![1]⟩
abbrev S_ : Shape := ⟨0, ![]⟩
abbrev S256x4096 : Shape := ⟨2, ![256, 4096]⟩
abbrev S1x1x1 : Shape := ⟨3, ![1, 1, 1]⟩
abbrev S1x2048x256 : Shape := ⟨3, ![1, 2048, 256]⟩
abbrev S2048x256 : Shape := ⟨2, ![2048, 256]⟩
abbrev S1x4096x512 : Shape := ⟨3, ![1, 4096, 512]⟩
abbrev S4096x512 : Shape := ⟨2, ![4096, 512]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .bf16⟩
  | .local _ .vmem, ⟨0, _⟩ => ⟨S4096x256, .bf16⟩
  | .local _ .vmem, ⟨1, _⟩ => ⟨S512x4096, .f32⟩
  | .local _ .vmem, ⟨2, _⟩ => ⟨S4x4096x512, .f32⟩
  | .local _ .vmem, ⟨3, _⟩ => ⟨S8x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.addi v2 c1_i32_8
  let c8_i32_9 : BitVec 32 := 8#32
  let v13 : BitVec 32 := Scalar.remsi v12 c8_i32_9
  let c1_i32_11 : BitVec 32 := 1#32
  let v14 : BitVec 32 := Scalar.muli v13 c1_i32_11
  let v15 : BitVec 32 := Scalar.addi c0_i32_12 v14
  v15.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v16 : BitVec 32 := Scalar.addi v2 c2_i32
  let c8_i32_13 : BitVec 32 := 8#32
  let v17 : BitVec 32 := Scalar.remsi v16 c8_i32_13
  let c1_i32_15 : BitVec 32 := 1#32
  let v18 : BitVec 32 := Scalar.muli v17 c1_i32_15
  let v19 : BitVec 32 := Scalar.addi c0_i32_16 v18
  v19.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v20 : BitVec 32 := Scalar.addi v2 c3_i32
  let c8_i32_17 : BitVec 32 := 8#32
  let v21 : BitVec 32 := Scalar.remsi v20 c8_i32_17
  let c1_i32_19 : BitVec 32 := 1#32
  let v22 : BitVec 32 := Scalar.muli v21 c1_i32_19
  let v23 : BitVec 32 := Scalar.addi c0_i32_20 v22
  v23.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v24 : BitVec 32 := Scalar.addi v2 c4_i32
  let c8_i32_21 : BitVec 32 := 8#32
  let v25 : BitVec 32 := Scalar.remsi v24 c8_i32_21
  let c1_i32_23 : BitVec 32 := 1#32
  let v26 : BitVec 32 := Scalar.muli v25 c1_i32_23
  let v27 : BitVec 32 := Scalar.addi c0_i32_24 v26
  v27.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v28 : BitVec 32 := Scalar.addi v2 c5_i32
  let c8_i32_25 : BitVec 32 := 8#32
  let v29 : BitVec 32 := Scalar.remsi v28 c8_i32_25
  let c1_i32_27 : BitVec 32 := 1#32
  let v30 : BitVec 32 := Scalar.muli v29 c1_i32_27
  let v31 : BitVec 32 := Scalar.addi c0_i32_28 v30
  v31.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v32 : BitVec 32 := Scalar.addi v2 c6_i32
  let c8_i32_29 : BitVec 32 := 8#32
  let v33 : BitVec 32 := Scalar.remsi v32 c8_i32_29
  let c1_i32_31 : BitVec 32 := 1#32
  let v34 : BitVec 32 := Scalar.muli v33 c1_i32_31
  let v35 : BitVec 32 := Scalar.addi c0_i32_32 v34
  v35.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v36 : BitVec 32 := Scalar.addi v2 c7_i32
  let c8_i32_33 : BitVec 32 := 8#32
  let v37 : BitVec 32 := Scalar.remsi v36 c8_i32_33
  let c1_i32_35 : BitVec 32 := 1#32
  let v38 : BitVec 32 := Scalar.muli v37 c1_i32_35
  let v39 : BitVec 32 := Scalar.addi c0_i32_36 v38
  v39.toNat
def k0_off1 (d0 : Dev nD) (c1_i32_37 : BitVec 32) : Fin 2 → Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.addi v2 c1_i32_37
  let c8_i32_38 : BitVec 32 := 8#32
  let v41 : BitVec 32 := Scalar.remsi v40 c8_i32_38
  let c256_i32_39 : BitVec 32 := 256#32
  let v42 : BitVec 32 := Scalar.muli v41 c256_i32_39
  ![0, v42.toNat]
def k0_off2 (d0 : Dev nD) (c1_i32_47 : BitVec 32) : Fin 2 → Nat :=
  let c2048_i32_55 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v48 : BitVec 32 := Scalar.addi v2 c1_i32_47
  let c8_i32_48 : BitVec 32 := 8#32
  let v49 : BitVec 32 := Scalar.remsi v48 c8_i32_48
  let c256_i32_49 : BitVec 32 := 256#32
  let v50 : BitVec 32 := Scalar.muli v49 c256_i32_49
  ![2048, v50.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v221 : BitVec 32 := Scalar.muli v2 c512_i32
  let c0_i32_261 : BitVec 32 := 0#32
  ![v221.toNat, 0]
def k0_dev8 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_254 : BitVec 32 := 1#32
  let v219 : BitVec 32 := Scalar.addi v2 c1_i32_254
  let c8_i32_255 : BitVec 32 := 8#32
  let v220 : BitVec 32 := Scalar.remsi v219 c8_i32_255
  let c1_i32_259 : BitVec 32 := 1#32
  let v222 : BitVec 32 := Scalar.muli v220 c1_i32_259
  let v223 : BitVec 32 := Scalar.addi c0_i32_260 v222
  v223.toNat
def k0_dev9 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_266 : BitVec 32 := 2#32
  let v235 : BitVec 32 := Scalar.addi v2 c2_i32_266
  let c8_i32_267 : BitVec 32 := 8#32
  let v236 : BitVec 32 := Scalar.remsi v235 c8_i32_267
  let c1_i32_272 : BitVec 32 := 1#32
  let v238 : BitVec 32 := Scalar.muli v236 c1_i32_272
  let v239 : BitVec 32 := Scalar.addi c0_i32_273 v238
  v239.toNat
def k0_dev10 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_326 : BitVec 32 := 3#32
  let v290 : BitVec 32 := Scalar.addi v2 c3_i32_326
  let c8_i32_327 : BitVec 32 := 8#32
  let v291 : BitVec 32 := Scalar.remsi v290 c8_i32_327
  let c1_i32_332 : BitVec 32 := 1#32
  let v293 : BitVec 32 := Scalar.muli v291 c1_i32_332
  let v294 : BitVec 32 := Scalar.addi c0_i32_333 v293
  v294.toNat
def k0_dev11 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_339 : BitVec 32 := 4#32
  let v306 : BitVec 32 := Scalar.addi v2 c4_i32_339
  let c8_i32_340 : BitVec 32 := 8#32
  let v307 : BitVec 32 := Scalar.remsi v306 c8_i32_340
  let c1_i32_345 : BitVec 32 := 1#32
  let v309 : BitVec 32 := Scalar.muli v307 c1_i32_345
  let v310 : BitVec 32 := Scalar.addi c0_i32_346 v309
  v310.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_399 : BitVec 32 := 5#32
  let v361 : BitVec 32 := Scalar.addi v2 c5_i32_399
  let c8_i32_400 : BitVec 32 := 8#32
  let v362 : BitVec 32 := Scalar.remsi v361 c8_i32_400
  let c1_i32_405 : BitVec 32 := 1#32
  let v364 : BitVec 32 := Scalar.muli v362 c1_i32_405
  let v365 : BitVec 32 := Scalar.addi c0_i32_406 v364
  v365.toNat
def k0_dev13 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_412 : BitVec 32 := 6#32
  let v377 : BitVec 32 := Scalar.addi v2 c6_i32_412
  let c8_i32_413 : BitVec 32 := 8#32
  let v378 : BitVec 32 := Scalar.remsi v377 c8_i32_413
  let c1_i32_418 : BitVec 32 := 1#32
  let v380 : BitVec 32 := Scalar.muli v378 c1_i32_418
  let v381 : BitVec 32 := Scalar.addi c0_i32_419 v380
  v381.toNat
def k0_dev14 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_472 : BitVec 32 := 7#32
  let v432 : BitVec 32 := Scalar.addi v2 c7_i32_472
  let c8_i32_473 : BitVec 32 := 8#32
  let v433 : BitVec 32 := Scalar.remsi v432 c8_i32_473
  let c1_i32_478 : BitVec 32 := 1#32
  let v435 : BitVec 32 := Scalar.muli v433 c1_i32_478
  let v436 : BitVec 32 := Scalar.addi c0_i32_479 v435
  v436.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_483 : BitVec 32 := 512#32
  let v445 : BitVec 32 := Scalar.muli v2 c512_i32_483
  let v446 : Index := Scalar.indexCast v445
  let c0_484 : Index := 0#32
  ![v446.toNat, 0]
def k0_off5 (d0 : Dev nD) (c1_i32_485 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v448 : BitVec 32 := Scalar.subi v2 c1_i32_485
  let c8_i32_486 : BitVec 32 := 8#32
  let v449 : BitVec 32 := Scalar.addi v448 c8_i32_486
  let c8_i32_487 : BitVec 32 := 8#32
  let v450 : BitVec 32 := Scalar.remsi v449 c8_i32_487
  let c512_i32_488 : BitVec 32 := 512#32
  let v451 : BitVec 32 := Scalar.muli v450 c512_i32_488
  let c0_i32_494 : BitVec 32 := 0#32
  ![v451.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.IPlan.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

/-!
The plan of the all-to-all kernel: which semaphore cells there are, which regions of which buffers
each transfer fills, what every buffer holds once filled, and what each arrival on a cell hands to
the device waiting there.

Device `c` multiplies its row block of `x` by every column block of `w`; the product with column
block `c + g` goes to device `c + g`. Offsets `g` run over `0 … 7` (`0` is the device's own block)
and every sum of devices is taken modulo eight.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own part and the eight-way exchange's, whose duties are named by `Fin 8` -/

/-- The tallies of the devices' cells, eight duties a round. -/
abbrev UX : Type := URounds (GSem nD τ sig) (Fin 8)
/-- Those tallies beside the tallies of the staging cells. -/
abbrev UU : Type := UR sig nD τ × UX

local notation "𝕄" => MT nD τ sig Unit (Elt F) ℕ UU ℕ

/-- Where the staging cells' tallies stand. -/
abbrev EP : Emb (UR sig nD τ) (MT nD τ sig Unit (Elt F) ℕ UU ℕ) := embL
/-- Where the devices' tallies stand. -/
abbrev EX : Emb UX (MT nD τ sig Unit (Elt F) ℕ UU ℕ) := embR

variable (m : (ℓ : Loc nD τ sig) → Buf (Elt F) ℓ) (ρ : Dev nD → PrngReg)

/-! ## Devices -/

/-- The device `g` places after `c`. -/
def fwd (c : Dev nD) (g : ℕ) : Dev nD := ⟨(c.val + g) % 8, Nat.mod_lt _ (by decide)⟩

/-- The number of the device `g` further along. -/
theorem fwd_val (c : Dev nD) (g : ℕ) : (fwd c g).val = (c.val + g) % 8 := rfl

/-- There are eight devices. -/
theorem dev_lt (c : Dev nD) : c.val < 8 := c.isLt

/-- Going `g` places on and then the rest of the circle returns to the start. -/
theorem fwd_back (c : Dev nD) {g : ℕ} (h : g ≤ 8) : fwd (fwd c g) (8 - g) = c := by
  apply Fin.ext; rw [fwd_val, fwd_val]; have := dev_lt c; omega

/-- A duty's name from a number below eight. -/
abbrev dn (g : ℕ) : Fin 8 := ⟨g % 8, Nat.mod_lt _ (by decide)⟩

/-! ## Buffers and cells -/

/-- The scratch for the rows of `x`. -/
abbrev xM : Memref sig .tc .vmem S512x4096 .f32 := Memref.whole cc0_scratch0
/-- The scratch for `w`, four slots. -/
abbrev wM : Memref sig .tc .vmem S4x4096x512 .f32 := Memref.whole cc0_scratch1
/-- The scratch for the product, eight blocks. -/
abbrev yM : Memref sig .tc .vmem S8x512x256 .bf16 := Memref.whole cc0_scratch2
/-- The result buffer. -/
abbrev oM : Memref sig .tc .vmem S4096x256 .bf16 := Memref.whole cc0_stg0_0
/-- The rows of `x` in HBM. -/
abbrev aM : Memref sig .tc .hbm S512x4096 .f32 := Memref.whole main_arg0
/-- `w` in HBM. -/
abbrev bM : Memref sig .tc .hbm S4096x2048 .f32 := Memref.whole main_arg1

/-- The runtime's barrier semaphore of this collective. -/
abbrev barS : Sem sig := (SemArray.scalar (sig.barrier 0 rfl) : Sems sig S_).sem

/-- The transfer semaphore numbered `n`: 1, 2 the halves of `x`; 3 … 18 the pieces of `w`; 20 … 26 the
    sends; 28 … 34 the receipts. -/
abbrev tsem (n : ℕ) : DmaSem sig := (⟨n % 35, Nat.mod_lt _ (by decide)⟩ : Fin 35)

/-- Device `c`'s barrier cell. -/
abbrev barC (c : Dev nD) : GSem nD τ sig := ((c : Thread nD τ), .reg barS)
/-- Device `c`'s transfer cell number `n`. -/
abbrev trC (c : Dev nD) (n : ℕ) : GSem nD τ sig := ((c : Thread nD τ), .dma (tsem n))

/-- All cells of one device: the barrier first, then the thirty-four transfer semaphores. -/
def csem (k : Fin 35) : SemLoc sig := if k.val = 0 then .reg barS else .dma (tsem k.val)
/-- A device's cells by number. -/
abbrev cell (ck : Dev nD × Fin 35) : GSem nD τ sig := ((ck.1 : Thread nD τ), csem ck.2)

/-- The transfer semaphores among them, which are the kernel's own. -/
abbrev osem (k : Fin 34) : SemLoc sig := .dma (tsem (k.val + 1))

/-- What half of the `x` buffer counts on a cell. -/
abbrev NX : ℕ := (xM.slice (Rect.unit (s := S512x4096) ![0, 0] S256x4096.size inb_S512x4096_S256x4096_0_0) (fun _ => rfl)).view.dmaCredit
/-- What a piece of the `w` buffer counts on a cell. -/
abbrev NW : ℕ := ((wM.slice (Rect.unit (s := S4x4096x512) ![0, 0, 0] S1x2048x256.size inb_S4x4096x512_S1x2048x256_0_0_0) (fun _ => rfl)).squeeze S2048x256 squeezes_S1x2048x256_S2048x256).view.dmaCredit
/-- What a block of the product counts on a cell. -/
abbrev NB : ℕ := ((yM.slice (Rect.unit (s := S8x512x256) ![1, 0, 0] S1x512x256.size inb_S8x512x256_S1x512x256_1_0_0) (fun _ => rfl)).squeeze S512x256 squeezes_S1x512x256_S512x256).view.dmaCredit

/-- That is more than nothing. -/
theorem NX_pos : 0 < NX := View.dmaCredit_pos _ (by decide)
/-- That is more than nothing. -/
theorem NW_pos : 0 < NW := View.dmaCredit_pos _ (by decide)
/-- That is more than nothing. -/
theorem NB_pos : 0 < NB := View.dmaCredit_pos _ (by decide)

/-! ## Regions, by a numbering of a buffer's elements -/

/-- The elements numbered `n`. -/
def at_ {I : Type} [Fintype I] (key : I → ℕ) (n : ℕ) : Finset I := Finset.univ.filter fun i => key i = n
/-- The elements numbered below `n`. -/
def below {I : Type} [Fintype I] (key : I → ℕ) (n : ℕ) : Finset I := Finset.univ.filter fun i => key i < n

/-- An index is in region `n` just when its number is `n`. -/
theorem mem_at {I : Type} [Fintype I] {key : I → ℕ} {n : ℕ} {i : I} : i ∈ at_ key n ↔ key i = n := by simp [at_]
/-- An index is in the first `n` regions just when its number is below `n`. -/
theorem mem_below {I : Type} [Fintype I] {key : I → ℕ} {n : ℕ} {i : I} : i ∈ below key n ↔ key i < n := by simp [below]

/-- Two regions have no index in common. -/
theorem at_disjoint {I : Type} [Fintype I] (key : I → ℕ) {a b : ℕ} (h : a ≠ b) : Disjoint (at_ key a) (at_ key b) :=
  Finset.disjoint_left.mpr fun i hi hj => h ((mem_at.mp hi).symm.trans (mem_at.mp hj))
/-- Region `n` has none in common with the first `n`. -/
theorem below_at_disjoint {I : Type} [Fintype I] (key : I → ℕ) (n : ℕ) : Disjoint (below key n) (at_ key n) :=
  Finset.disjoint_left.mpr fun i hi hj => by rw [mem_below] at hi; rw [mem_at] at hj; omega
/-- The first `n + 1` regions are the first `n` and region `n`. -/
theorem below_succ {I : Type} [Fintype I] [DecidableEq I] (key : I → ℕ) (n : ℕ) : below key (n + 1) = below key n ∪ at_ key n := by
  ext i; rw [Finset.mem_union, mem_below, mem_below, mem_at]; omega
/-- The first no regions are empty. -/
theorem below_zero {I : Type} [Fintype I] (key : I → ℕ) : below key 0 = ∅ := by
  ext i; rw [mem_below]; simp
/-- Where every number is below `n`, the first `n` regions are everything. -/
theorem below_univ {I : Type} [Fintype I] (key : I → ℕ) {n : ℕ} (h : ∀ i, key i < n) : below key n = Finset.univ := by
  ext i; rw [mem_below]; simp [h i]

/-- Which half of the rows of `x`. -/
def xkey (i : S512x4096.Idx) : ℕ := (i 0).val / 256
/-- Which piece of the `w` buffer: four to a slot, by column half then row half. -/
def wkey (i : S4x4096x512.Idx) : ℕ := 4 * (i 0).val + 2 * ((i 2).val / 256) + (i 1).val / 2048
/-- Which piece of `w` itself: column block, then row half. -/
def bkey (i : S4096x2048.Idx) : ℕ := 2 * ((i 1).val / 256) + (i 0).val / 2048
/-- Which slot of the product buffer. -/
def ykey (i : S8x512x256.Idx) : ℕ := (i 0).val
/-- Which row block of the result. -/
def okey (i : S4096x256.Idx) : ℕ := (i 0).val / 512
/-- A result's row blocks, numbered by how far behind device `c` they come from. -/
def orel (c : Dev nD) (i : S4096x256.Idx) : ℕ := (c.val + 8 - (i 0).val / 512) % 8

/-! ## Contents -/

/-- The rows of `x` device `c` holds. -/
abbrev XC (c : Dev nD) : Buf (Elt F) ((c : Thread nD τ).loc main_arg0) := m ((c : Thread nD τ).loc main_arg0)
/-- The whole of `w`. -/
abbrev BC (c : Dev nD) : Buf (Elt F) ((c : Thread nD τ).loc main_arg1) := m ((c : Thread nD τ).loc main_arg1)

/-- A column of a block of `w` is a column of `w`. -/
theorem mod8_col (n j : ℕ) : 256 * (n % 8) + j % 256 < 2048 := by omega

/-- The `w` buffer filled: slot `s` holds the column blocks `c + 2s + 1` and `c + 2s + 2`. -/
def WC (c : Dev nD) : Vec F S4x4096x512 .f32 := fun i =>
  BC m c (ix2 (n0 := 4096) (n1 := 2048) (i 1) ⟨256 * ((c.val + (2 * (i 0).val + (i 2).val / 256 + 1)) % 8) + (i 2).val % 256, mod8_col _ _⟩)

/-- One slot of it, as loaded. -/
def wslot (c : Dev nD) (q : Fin 4) : Vec F S1x4096x512 .f32 := fun x => WC m c (ix3 (n0 := 4) (n1 := 4096) (n2 := 512) q (x 1) (x 2))

/-- The product with one slot: two blocks side by side. -/
def prodq (c : Dev nD) (q : Fin 4) : FVec F S512x512 .bf16 := k0_pay1 (XC m c) (wslot m c q)

/-- Where block `g` stands among the eight half slots. -/
abbrev pos (g : ℕ) : ℕ := (g + 7) % 8

/-- The block of the product meant for device `c + g`. -/
def blk (c : Dev nD) (g : ℕ) : FVec F S512x256 .bf16 := fun x =>
  prodq m c ⟨pos g / 2, by unfold pos; omega⟩ (ix2 (n0 := 512) (n1 := 512) (x 0) ⟨256 * (pos g % 2) + (x 1).val, by have h : (x 1).val < 256 := (x 1).isLt; omega⟩)

/-- The product buffer filled. -/
def YC (c : Dev nD) : Vec F S8x512x256 .bf16 := fun i => blk m c (i 0).val (ix2 (n0 := 512) (n1 := 256) (i 1) (i 2))

/-- The result of device `c`: row block `s` is what device `s` made for it. -/
def OC (c : Dev nD) : Vec F S4096x256 .bf16 := fun i =>
  blk m (⟨(i 0).val / 512, by have h : (i 0).val < 4096 := (i 0).isLt; show _ < 8; omega⟩ : Dev nD) (orel c i)
    (ix2 (n0 := 512) (n1 := 256) ⟨(i 0).val % 512, Nat.mod_lt _ (by decide)⟩ (i 1))

/-! ## What an arrival hands over -/

/-- Half `p` of the `x` buffer, filled. -/
def xPay (c : Dev nD) (p : ℕ) : sProp 𝕄 := (c : Thread nD τ).loc cc0_scratch0 ↦[at_ xkey p]{fullShare} XC m c
/-- Piece `j` of the `w` buffer, filled. -/
def wPay (c : Dev nD) (j : ℕ) : sProp 𝕄 := (c : Thread nD τ).loc cc0_scratch1 ↦[at_ wkey j]{fullShare} WC m c
/-- Slot `g` of the product buffer, which the send has read. -/
def yPay (c : Dev nD) (g : ℕ) : sProp 𝕄 := (c : Thread nD τ).loc cc0_scratch2 ↦[at_ ykey g]{fullShare} YC m c
/-- The row block of the result that came from `g` places behind, filled. -/
def oPay (c : Dev nD) (g : ℕ) : sProp 𝕄 := (c : Thread nD τ).loc cc0_stg0_0 ↦[at_ (orel c) g]{fullShare} OC m c
/-- Row block `c` of the result buffer of the device `g` places on: leave to write it. -/
def leave (c : Dev nD) (g : ℕ) : sProp 𝕄 := iprop(∃ f, (fwd c g : Thread nD τ).loc cc0_stg0_0 ↦[at_ okey c.val]{fullShare} f)

/-- What an arrival on transfer cell `n` of device `c` hands over. -/
def trPay (c : Dev nD) (n : ℕ) : sProp 𝕄 :=
  if n < 3 then xPay m c (n - 1) else if n < 19 then wPay m c (n - 3) else if n < 27 then yPay m c (n - 19) else oPay m c (n - 27)

/-- The numbers of the transfer cells that are used. -/
def used (n : ℕ) : Bool := n ≠ 0 && n ≠ 19 && n ≠ 27

/-- How much an arrival on transfer cell `n` counts. -/
def trAmt (n : ℕ) : ℕ := if n < 3 then NX else if n < 19 then NW else NB

/-- Every arrival counts for something. -/
theorem trAmt_pos (n : ℕ) : 0 < trAmt n := by
  unfold trAmt; split
  · exact NX_pos
  · split
    · exact NW_pos
    · exact NB_pos

/-- One round. A barrier cell expects one unit from each of the seven other devices (duty `g`: the one `g` places on,
    which hands its leave); a transfer cell in use expects its transfer's credit. -/
def plan : Rounds.Schedule (GSem nD τ sig) (Fin 8) 𝕄 where
  duties g r := if r = 0 then (match g.2 with
    | .reg s => if s = barS then Finset.univ.erase 0 else ∅
    | .dma k => if used k.val then {0} else ∅) else ∅
  unitless _ := False
  amount g _ _ := match g.2 with
    | .reg _ => 1
    | .dma k => trAmt k.val
  payload g _ d := match g.2 with
    | .reg _ => leave g.1.1 d.val
    | .dma k => trPay m g.1.1 k.val
  amount_pos g _ _ _ := by
    dsimp only; split
    · exact Nat.one_pos
    · exact trAmt_pos _

/-- An arrival's payload may be kept in a cell. -/
instance trPay_storable (c : Dev nD) (n : ℕ) : BI.Storable (upEmb : UEmb _ 𝕄) (trPay m c n) := by
  unfold trPay xPay wPay yPay oPay
  (repeat' split) <;> infer_instance
/-- So may the leave to fill a row block. -/
instance leave_storable (c : Dev nD) (n : ℕ) : BI.Storable (upEmb : UEmb _ 𝕄) (leave (F := F) c n) := by
  unfold leave; infer_instance

/-- So may every payload of the plan. -/
instance plan_storable (g : GSem nD τ sig) (r : ℕ) (d : Fin 8) :
    BI.Storable (upEmb : UEmb _ 𝕄) ((plan (F := F) m).payload g r d) := by
  show BI.Storable upEmb (match g.2 with | .reg _ => leave g.1.1 d.val | .dma k => trPay m g.1.1 k.val)
  split <;> infer_instance

/-- The seven other devices each signal the barrier once. -/
theorem duties_bar (c : Dev nD) : (plan (F := F) m).duties (barC c) 0 = Finset.univ.erase 0 := rfl
/-- A transfer cell that is used has one arrival. -/
theorem duties_tr (c : Dev nD) (n : ℕ) (h : used (n % 35) = true) : (plan (F := F) m).duties (trC c n) 0 = {0} := by
  show (if used (n % 35) = true then ({0} : Finset (Fin 8)) else ∅) = _; rw [if_pos h]
/-- One that is not used has none. -/
theorem duties_unused (c : Dev nD) (n : ℕ) (h : used (n % 35) = false) (r : ℕ) : (plan (F := F) m).duties (trC c n) r = ∅ := by
  show (if r = 0 then (if used (n % 35) = true then ({0} : Finset (Fin 8)) else ∅) else ∅) = _; rw [h]; simp
/-- Nothing arrives in a later round. -/
theorem duties_later (g : GSem nD τ sig) : ∀ r, 1 ≤ r → (plan (F := F) m).duties g r = ∅ :=
  fun r hr => by dsimp only [plan]; rw [if_neg (by omega)]

/-- A signal counts one. -/
theorem amount_bar (c : Dev nD) (d : Fin 8) : (plan (F := F) m).amount (barC c) 0 d = 1 := rfl
/-- What an arrival on a transfer cell counts. -/
theorem amount_tr (c : Dev nD) (n : ℕ) (d : Fin 8) : (plan (F := F) m).amount (trC c n) 0 d = trAmt (n % 35) := rfl

/-- A barrier cell gets seven in all. -/
theorem expect_bar (c : Dev nD) : (plan (F := F) m).expect (barC c) 0 = 7 := by
  unfold Schedule.expect Schedule.amountOf
  rw [duties_bar, Finset.sum_congr rfl fun d _ => amount_bar m c d]; decide
/-- What a transfer cell gets in all. -/
theorem expect_tr (c : Dev nD) (n : ℕ) (h : used (n % 35) = true) : (plan (F := F) m).expect (trC c n) 0 = trAmt (n % 35) := by
  unfold Schedule.expect Schedule.amountOf; rw [duties_tr m c n h, Finset.sum_singleton, amount_tr]

/-- A signal hands over the leave to fill a row block. -/
theorem payload_bar (c : Dev nD) (d : Fin 8) : (plan (F := F) m).payload (barC c) 0 d = leave c d.val := rfl
/-- What an arrival on a transfer cell hands over. -/
theorem payload_tr (c : Dev nD) (n : ℕ) (d : Fin 8) : (plan (F := F) m).payload (trC c n) 0 d = trPay m c (n % 35) := rfl

/-- Cells 1 and 2 hand over the halves of the `x` buffer. -/
theorem trPay_x (c : Dev nD) {n : ℕ} (h : n < 2) : trPay (F := F) m c ((1 + n) % 35) = xPay m c n := by
  unfold trPay; rw [if_pos (by omega)]; congr 1; omega
/-- Cells 3 to 18 hand over the pieces of the `w` buffer. -/
theorem trPay_w (c : Dev nD) {n : ℕ} (h : n < 16) : trPay (F := F) m c ((3 + n) % 35) = wPay m c n := by
  unfold trPay; rw [if_neg (by omega), if_pos (by omega)]; congr 1; omega
/-- Cells 19 to 26 hand back the blocks sent. -/
theorem trPay_y (c : Dev nD) {n : ℕ} (h : n < 8) : trPay (F := F) m c ((19 + n) % 35) = yPay m c n := by
  unfold trPay; rw [if_neg (by omega), if_neg (by omega), if_pos (by omega)]; congr 1; omega
/-- Cells 27 to 34 hand over the row blocks received. -/
theorem trPay_o (c : Dev nD) {n : ℕ} (h : n < 8) : trPay (F := F) m c ((27 + n) % 35) = oPay m c n := by
  unfold trPay; rw [if_neg (by omega), if_neg (by omega), if_neg (by omega)]; congr 1; omega

/-- Cells 1 and 2 count in halves of the `x` buffer. -/
theorem trAmt_x {n : ℕ} (h : n < 2) : trAmt ((1 + n) % 35) = NX := by unfold trAmt; rw [if_pos (by omega)]
/-- Cells 3 to 18 count in pieces of the `w` buffer. -/
theorem trAmt_w {n : ℕ} (h : n < 16) : trAmt ((3 + n) % 35) = NW := by unfold trAmt; rw [if_neg (by omega), if_pos (by omega)]
/-- The other sixteen count in blocks. -/
theorem trAmt_b {n : ℕ} (h : n < 16) : trAmt ((19 + n) % 35) = NB := by unfold trAmt; rw [if_neg (by omega), if_neg (by omega)]

/-! ## Lists of assertions -/

/-- One assertion for every entry of a list. -/
def each (Φ : ℕ → sProp 𝕄) : List ℕ → sProp 𝕄
  | [] => iprop(emp)
  | a :: l => iprop(Φ a ∗ each Φ l)

/-- The first member of a list beside the rest. -/
theorem each_cons (Φ : ℕ → sProp 𝕄) (a : ℕ) (l : List ℕ) : each Φ (a :: l) = iprop(Φ a ∗ each Φ l) := rfl

/-- One member more, at the end of a list. -/
theorem each_snoc (Φ : ℕ → sProp 𝕄) (a : ℕ) : ∀ l : List ℕ, iprop(Φ a ∗ each Φ l) ⊢ each Φ (l ++ [a])
  | [] => BI.Entails.refl _
  | b :: l => by
    show iprop(Φ a ∗ Φ b ∗ each Φ l) ⊢ iprop(Φ b ∗ each Φ (l ++ [a]))
    iintro ⟨Ha, Hb, Hl⟩
    isplitl [Hb]; · iexact Hb
    iapply (each_snoc Φ a l)
    isplitl [Ha] <;> iassumption

/-- What follows member by member follows for the list. -/
theorem each_mono {Φ Ψ : ℕ → sProp 𝕄} : ∀ l : List ℕ, (∀ a ∈ l, Φ a ⊢ Ψ a) → (each Φ l ⊢ each Ψ l)
  | [], _ => BI.Entails.refl _
  | b :: l, h => BI.sep_mono (h b (List.mem_cons_self ..)) (each_mono l fun a ha => h a (List.mem_cons_of_mem _ ha))

/-- Two lists joined member by member. -/
theorem each_sep (Φ Ψ : ℕ → sProp 𝕄) : ∀ l : List ℕ, iprop(each Φ l ∗ each Ψ l) ⊢ each (fun a => iprop(Φ a ∗ Ψ a)) l
  | [] => by show iprop(emp ∗ emp) ⊢ iprop(emp); iintro -; iempintro
  | b :: l => by
    show iprop((Φ b ∗ each Φ l) ∗ (Ψ b ∗ each Ψ l)) ⊢ iprop((Φ b ∗ Ψ b) ∗ each _ l)
    iintro ⟨⟨H1, H2⟩, H3, H4⟩
    isplitl [H1 H3]; · isplitl [H1] <;> iassumption
    iapply (each_sep Φ Ψ l)
    isplitl [H2] <;> iassumption

/-- The order of a list does not matter. -/
theorem each_perm (Φ : ℕ → sProp 𝕄) {l l' : List ℕ} (h : l.Perm l') : each Φ l ⊢ each Φ l' := by
  induction h with
  | nil => exact BI.Entails.refl _
  | cons a _ ih => exact sep_mono_right ih
  | swap a b l =>
    show iprop(Φ b ∗ Φ a ∗ each Φ l) ⊢ iprop(Φ a ∗ Φ b ∗ each Φ l)
    iintro ⟨Hb, Ha, Hl⟩
    isplitl [Ha]; · iexact Ha
    isplitl [Hb] <;> iassumption
  | trans _ _ ih ih' => exact ih.trans ih'

/-- A big conjunction over a type listed by numbers. -/
theorem bigSep_each {I : Type} [Fintype I] [DecidableEq I] (Φ : I → sProp 𝕄) (Ψ : ℕ → sProp 𝕄) (i : ℕ → I) :
    ∀ (l : List ℕ) (S : Finset I), (l.map i).Nodup → (l.map i).toFinset = S → (∀ a ∈ l, Φ (i a) = Ψ a) → bigSep S Φ = each Ψ l
  | [], S, _, hS, _ => by
    have : S = ∅ := hS.symm
    subst this; rfl
  | a :: l, S, hn, hS, h => by
    have hn' := List.nodup_cons.mp hn
    have : S = insert (i a) (l.map i).toFinset := by rw [← hS]; simp
    subst this
    rw [bigSep_insert (by simpa using hn'.1)]
    rw [bigSep_each Φ Ψ i l _ hn'.2 rfl fun b hb => h b (List.mem_cons_of_mem _ hb), h a (List.mem_cons_self ..)]
    rfl

/-- The rest of the barrier's round: the seven leaves. -/
theorem rest_bar (c : Dev nD) : bigSep ((plan (F := F) m).duties (barC c) 0 \ ∅) (fun d => (plan (F := F) m).payload (barC c) 0 d)
    = each (leave c) [1, 2, 3, 4, 5, 6, 7] := by
  rw [Finset.sdiff_empty, duties_bar]
  exact bigSep_each _ _ dn [1, 2, 3, 4, 5, 6, 7] _ (by decide) (by decide) fun a ha => by
    rw [payload_bar]; congr 1; revert a; decide
/-- All that a transfer cell's one round hands over. -/
theorem rest_tr (c : Dev nD) (n : ℕ) (h : used (n % 35) = true) :
    bigSep ((plan (F := F) m).duties (trC c n) 0 \ ∅) (fun d => (plan (F := F) m).payload (trC c n) 0 d) = trPay m c (n % 35) := by
  rw [Finset.sdiff_empty, duties_tr m c n h, bigSep_singleton, payload_tr]

/-! ## What a device owes; levels -/

/-- The receipts a device still owes: one at each device it has yet to send to. -/
def oweR (c : Dev nD) : List ℕ → CellTallies nD τ sig Unit
  | [] => 0
  | g :: l => oweR c l + tallyAt (trC (fwd c g) (27 + g)) () NB
/-- With these, the barrier units it still owes. -/
def owe (c : Dev nD) (ss : List ℕ) : List ℕ → CellTallies nD τ sig Unit
  | [] => oweR c ss
  | g :: l => owe c ss l + tallyAt (barC (fwd c g)) () 1

/-- Which cells have a level: those of the thread that runs the kernel on a device. -/
def L (g : GSem nD τ sig) : Finset Unit := if g.1.2 = .tc then {()} else ∅
/-- Receipts above barriers above everything else. -/
def lv (g : GSem nD τ sig) (_ : Unit) : ℕ := match g.2 with
  | .reg _ => 1
  | .dma k => if 27 ≤ k.val then 2 else 0

/-- Another thread's cells have none. -/
theorem L_of_ne (g : GSem nD τ sig) (h : g.1.2 ≠ .tc) : L g = ∅ := if_neg h
/-- Every cell of that thread has one. -/
theorem L_tc (c : Dev nD) (sm : SemLoc sig) : L ((c : Thread nD τ), sm) = {()} := if_pos rfl

/-- The cells for blocks received have the highest level. -/
theorem lv_recv (c : Dev nD) {g : ℕ} (h : g < 8) (u : Unit) : lv (trC c (27 + g)) u = 2 := by
  show (if 27 ≤ (27 + g) % 35 then 2 else 0) = 2; rw [if_pos (by omega)]

/-- What is still to be sent is owed to cells of the highest level. -/
theorem oweR_pos {c : Dev nD} {g : GSem nD τ sig} {u : Unit} : ∀ {l : List ℕ}, (∀ a ∈ l, a < 8) → 0 < oweR c l g u →
    lv g u = 2 ∧ u ∈ L g
  | [], _, h => absurd h (Nat.lt_irrefl 0)
  | a :: l, hl, h => by
    unfold oweR at h
    rw [Pi.add_apply, Finsupp.add_apply, tallyAt_apply] at h
    by_cases hg : g = trC (fwd c a) (27 + a) ∧ u = ()
    · obtain ⟨rfl, rfl⟩ := hg
      exact ⟨lv_recv _ (hl a (List.mem_cons_self ..)) _, by rw [L_tc]; exact Finset.mem_singleton_self _⟩
    · rw [if_neg hg, Nat.add_zero] at h
      exact oweR_pos (fun b hb => hl b (List.mem_cons_of_mem _ hb)) h

/-- Whatever is owed is owed to cells above the lowest level. -/
theorem owe_pos {c : Dev nD} {g : GSem nD τ sig} {u : Unit} {ss : List ℕ} (hs : ∀ a ∈ ss, a < 8) : ∀ {l : List ℕ}, 0 < owe c ss l g u →
    0 < lv g u ∧ u ∈ L g
  | [], h => by have := oweR_pos hs h; exact ⟨by omega, this.2⟩
  | a :: l, h => by
    unfold owe at h
    rw [Pi.add_apply, Finsupp.add_apply, tallyAt_apply] at h
    by_cases hg : g = barC (fwd c a) ∧ u = ()
    · obtain ⟨rfl, rfl⟩ := hg
      exact ⟨Nat.one_pos, by rw [L_tc]; exact Finset.mem_singleton_self _⟩
    · rw [if_neg hg, Nat.add_zero] at h
      exact owe_pos hs h

/-- A cell of the lowest level may be waited for whatever is owed. -/
theorem mayWait_low (c : Dev nD) (q : DmaSem sig) (hq : (q : Fin 35).val < 27) {ss : List ℕ} (hs : ∀ a ∈ ss, a < 8) (sg : List ℕ) :
    (levAts L lv : sProp 𝕄) ⊢ MayWait (c : Thread nD τ) (.dma q) () (owe c ss sg) :=
  MayOwe.of_cut (L := L) (lev := lv) 0 (fun p hp => by rw [Finset.mem_singleton.mp hp, L_tc]; exact Finset.mem_singleton_self _)
    (fun g u hg => (owe_pos hs hg).2)
    (fun p hp => by
      rw [Finset.mem_singleton.mp hp]; show (if 27 ≤ (q : Fin 35).val then 2 else 0) ≤ 0; rw [if_neg (by omega)])
    (fun g u hg => (owe_pos hs hg).1)

/-- The barrier may be waited for while only receipts are owed. -/
theorem mayWait_bar (c : Dev nD) {ss : List ℕ} (hs : ∀ a ∈ ss, a < 8) :
    (levAts L lv : sProp 𝕄) ⊢ MayWait (c : Thread nD τ) (.reg barS) () (oweR c ss) :=
  MayOwe.of_cut (L := L) (lev := lv) 1 (fun p hp => by rw [Finset.mem_singleton.mp hp, L_tc]; exact Finset.mem_singleton_self _)
    (fun g u hg => (oweR_pos hs hg).2)
    (fun p hp => by rw [Finset.mem_singleton.mp hp]; exact le_refl 1)
    (fun g u hg => by rw [(oweR_pos hs hg).1]; decide)

end Cert.KernelIdealProof

end
-- ==== Proof.IMove.lean ====
module

public import proofs.«01_k».proof.Proof.IPlan
public import Idealize.ShloMosaic.Lib.Pipeline.ValueKit.Geometry

/-!
The slices the kernel's transfers, loads and stores go through: which region of its buffer each one
is, and what it holds once the transfer into it has landed.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slices -/

section Slices

/-- A half of the `x` buffer. -/
abbrev xS (off : Fin 2 → ℕ) (h : ∀ a, off a + S256x4096.size a ≤ S512x4096.size a) : Memref sig .tc .vmem S256x4096 .f32 :=
  xM.slice (Rect.unit (s := S512x4096) off S256x4096.size h) (fun _ => rfl)
/-- A half of the device's rows in HBM. -/
abbrev aS (off : Fin 2 → ℕ) (h : ∀ a, off a + S256x4096.size a ≤ S512x4096.size a) : Memref sig .tc .hbm S256x4096 .f32 :=
  aM.slice (Rect.unit (s := S512x4096) off S256x4096.size h) (fun _ => rfl)
/-- A piece of the `w` buffer. -/
abbrev wS (off : Fin 3 → ℕ) (h : ∀ a, off a + S1x2048x256.size a ≤ S4x4096x512.size a) : Memref sig .tc .vmem S2048x256 .f32 :=
  (wM.slice (Rect.unit (s := S4x4096x512) off S1x2048x256.size h) (fun _ => rfl)).squeeze S2048x256 squeezes_S1x2048x256_S2048x256
/-- A piece of `w` in HBM. -/
abbrev bS (off : Fin 2 → ℕ) (h : ∀ a, off a + S2048x256.size a ≤ S4096x2048.size a) : Memref sig .tc .hbm S2048x256 .f32 :=
  bM.slice (Rect.unit (s := S4096x2048) off S2048x256.size h) (fun _ => rfl)
/-- A block of the product. -/
abbrev yS (off : Fin 3 → ℕ) (h : ∀ a, off a + S1x512x256.size a ≤ S8x512x256.size a) : Memref sig .tc .vmem S512x256 .bf16 :=
  (yM.slice (Rect.unit (s := S8x512x256) off S1x512x256.size h) (fun _ => rfl)).squeeze S512x256 squeezes_S1x512x256_S512x256
/-- A row block of the result. -/
abbrev oS (off : Fin 2 → ℕ) (h : ∀ a, off a + S512x256.size a ≤ S4096x256.size a) : Memref sig .tc .vmem S512x256 .bf16 :=
  oM.slice (Rect.unit (s := S4096x256) off S512x256.size h) (fun _ => rfl)

/-- An index is in a rectangle when each coordinate is in its range. -/
theorem mem_unit2 {n0 n1 : ℕ} {off size : Fin 2 → ℕ} {h} {i : (⟨2, ![n0, n1]⟩ : Shape).Idx} :
    i ∈ (Rect.unit (s := ⟨2, ![n0, n1]⟩) off size h).set
      ↔ (off 0 ≤ (i 0).val ∧ (i 0).val < off 0 + size 0) ∧ (off 1 ≤ (i 1).val ∧ (i 1).val < off 1 + size 1) := by
  rw [Rect.mem_set_unit]; exact Fin.forall_fin_two
/-- The same with three coordinates. -/
theorem mem_unit3 {n0 n1 n2 : ℕ} {off size : Fin 3 → ℕ} {h} {i : (⟨3, ![n0, n1, n2]⟩ : Shape).Idx} :
    i ∈ (Rect.unit (s := ⟨3, ![n0, n1, n2]⟩) off size h).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  exact ⟨fun H => ⟨H 0, H 1, H 2⟩, fun H a => by
    match a with
    | ⟨0, _⟩ => exact H.1
    | ⟨1, _⟩ => exact H.2.1
    | ⟨2, _⟩ => exact H.2.2⟩

/-- The bounds of an index with two coordinates. -/
theorem lt2 {n0 n1 : ℕ} (i : (⟨2, ![n0, n1]⟩ : Shape).Idx) : (i 0).val < n0 ∧ (i 1).val < n1 := ⟨(i 0).isLt, (i 1).isLt⟩
/-- The bounds of an index with three. -/
theorem lt3 {n0 n1 n2 : ℕ} (i : (⟨3, ![n0, n1, n2]⟩ : Shape).Idx) : (i 0).val < n0 ∧ (i 1).val < n1 ∧ (i 2).val < n2 :=
  ⟨(i 0).isLt, (i 1).isLt, (i 2).isLt⟩

/-- Half `p` of the `x` buffer as a region of the plan. -/
theorem rect_x {p : ℕ} {off : Fin 2 → ℕ} (ho : off = ![256 * p, 0]) {h} :
    (Rect.unit (s := S512x4096) off S256x4096.size h).set = at_ xkey p := by
  subst ho; ext i; rw [mem_unit2, mem_at]; unfold xkey
  have := lt2 (n0 := 512) (n1 := 4096) i
  simp only [Matrix.cons_val_zero, Matrix.cons_val_one]; omega
/-- A piece of the `w` buffer as a region of the plan. -/
theorem rect_w {s p q : ℕ} (hp : p < 2) (hq : q < 2) {off : Fin 3 → ℕ} (ho : off = ![s, 2048 * p, 256 * q]) {h} :
    (Rect.unit (s := S4x4096x512) off S1x2048x256.size h).set = at_ wkey (4 * s + 2 * q + p) := by
  subst ho; ext i; rw [mem_unit3, mem_at]; unfold wkey
  have := lt3 (n0 := 4) (n1 := 4096) (n2 := 512) i
  simp only [Matrix.cons_val_zero, Matrix.cons_val_one, Matrix.cons_val]; omega
/-- A piece of `w` as a region of the plan. -/
theorem rect_b {p q : ℕ} (hp : p < 2) {off : Fin 2 → ℕ} (ho : off = ![2048 * p, 256 * q]) {h} :
    (Rect.unit (s := S4096x2048) off S2048x256.size h).set = at_ bkey (2 * q + p) := by
  subst ho; ext i; rw [mem_unit2, mem_at]; unfold bkey
  have := lt2 (n0 := 4096) (n1 := 2048) i
  simp only [Matrix.cons_val_zero, Matrix.cons_val_one]; omega
/-- Block `g` of the product as a region of the plan. -/
theorem rect_y {g : ℕ} {off : Fin 3 → ℕ} (ho : off = ![g, 0, 0]) {h} :
    (Rect.unit (s := S8x512x256) off S1x512x256.size h).set = at_ ykey g := by
  subst ho; ext i; rw [mem_unit3, mem_at]; unfold ykey
  have := lt3 (n0 := 8) (n1 := 512) (n2 := 256) i
  simp only [Matrix.cons_val_zero, Matrix.cons_val_one, Matrix.cons_val]; omega
/-- Row block `s` of the result as a region of the plan. -/
theorem rect_o {s : ℕ} {off : Fin 2 → ℕ} (ho : off = ![512 * s, 0]) {h} :
    (Rect.unit (s := S4096x256) off S512x256.size h).set = at_ okey s := by
  subst ho; ext i; rw [mem_unit2, mem_at]; unfold okey
  have := lt2 (n0 := 4096) (n1 := 256) i
  simp only [Matrix.cons_val_zero, Matrix.cons_val_one]; omega

/-- The slice of half `p` of the `x` buffer covers that region. -/
theorem set_x {p : ℕ} {off : Fin 2 → ℕ} (ho : off = ![256 * p, 0]) {h} : (xS off h).view.set = at_ xkey p :=
  (View.set_slice_whole _ _).trans (rect_x ho)
/-- So does the slice of the rows in HBM. -/
theorem set_a {p : ℕ} {off : Fin 2 → ℕ} (ho : off = ![256 * p, 0]) {h} : (aS off h).view.set = at_ xkey p :=
  (View.set_slice_whole _ _).trans (rect_x ho)
/-- The slice of a piece of the `w` buffer covers its region. -/
theorem set_w {s p q : ℕ} (hp : p < 2) (hq : q < 2) {off : Fin 3 → ℕ} (ho : off = ![s, 2048 * p, 256 * q]) {h} :
    (wS off h).view.set = at_ wkey (4 * s + 2 * q + p) :=
  ((View.set_reshape _ _).trans (View.set_slice_whole _ _)).trans (rect_w hp hq ho)
/-- The slice of a piece of `w` covers its region. -/
theorem set_b {p q : ℕ} (hp : p < 2) {off : Fin 2 → ℕ} (ho : off = ![2048 * p, 256 * q]) {h} :
    (bS off h).view.set = at_ bkey (2 * q + p) :=
  (View.set_slice_whole _ _).trans (rect_b hp ho)
/-- The slice of a block of the product covers its region. -/
theorem set_y {g : ℕ} {off : Fin 3 → ℕ} (ho : off = ![g, 0, 0]) {h} : (yS off h).view.set = at_ ykey g :=
  ((View.set_reshape _ _).trans (View.set_slice_whole _ _)).trans (rect_y ho)
/-- The slice of a row block of the result covers its region. -/
theorem set_o {s : ℕ} {off : Fin 2 → ℕ} (ho : off = ![512 * s, 0]) {h} : (oS off h).view.set = at_ okey s :=
  (View.set_slice_whole _ _).trans (rect_o ho)

/-- Row block `s` of device `c`'s result is the one from `c - s` places behind. -/
theorem okey_orel (c : Dev nD) {s g : ℕ} (hs : s < 8) (hg : g = (c.val + 8 - s) % 8) : at_ okey s = at_ (orel c) g := by
  ext i; rw [mem_at, mem_at]; unfold okey orel
  have := lt2 (n0 := 4096) (n1 := 256) i
  have := dev_lt c
  omega

end Slices

/-! ## What a transfer leaves -/

/-- A write of exactly what the view reads in `G` leaves `G` on the view's elements. -/
theorem write_reads {κ : Kind} {sp : Space} {s : Shape} {e : EltTy} (v : View sig κ sp s e) (f G : v.ty.Contents (Elt F)) (w : s.Idx → Elt F e)
    (h : ∀ x, v.read (Elt F) G x = w x) : ∀ i ∈ v.set, v.write (Elt F) f w Finset.univ i = G i := by
  intro i hi
  obtain ⟨x, _, rfl⟩ := Finset.mem_map.mp hi
  rw [View.write_emb_of_mem _ _ (Finset.mem_univ x), ← h x, View.read_apply, cast_cast, cast_eq]

/-- Where an index of a rectangle lies in the whole, two coordinates. -/
theorem emb2 {n0 n1 : ℕ} {off size : Fin 2 → ℕ} {h} (x : (Rect.unit (s := ⟨2, ![n0, n1]⟩) off size h).shape.Idx) (a : Fin 2) :
    (((Rect.unit (s := ⟨2, ![n0, n1]⟩) off size h).emb x a : Fin _) : ℕ) = off a + (x a).val := ValueKit.rect_emb_unit_val _ _ _ _ _
/-- The same with three coordinates. -/
theorem emb3 {n0 n1 n2 : ℕ} {off size : Fin 3 → ℕ} {h} (x : (Rect.unit (s := ⟨3, ![n0, n1, n2]⟩) off size h).shape.Idx) (a : Fin 3) :
    (((Rect.unit (s := ⟨3, ![n0, n1, n2]⟩) off size h).emb x a : Fin _) : ℕ) = off a + (x a).val := ValueKit.rect_emb_unit_val _ _ _ _ _

/-- An element of that slice of the `x` buffer. -/
theorem read_xS {off h} (f : Vec F S512x4096 .f32) (x : S256x4096.Idx) :
    (xS off h).view.read (Elt F) f x = f ((Rect.unit (s := S512x4096) off S256x4096.size h).emb x) := rfl
/-- An element of that slice of the rows in HBM. -/
theorem read_aS {off h} (f : Vec F S512x4096 .f32) (x : S256x4096.Idx) :
    (aS off h).view.read (Elt F) f x = f ((Rect.unit (s := S512x4096) off S256x4096.size h).emb x) := rfl
/-- An element of that slice of `w`. -/
theorem read_bS {off h} (f : Vec F S4096x2048 .f32) (x : S2048x256.Idx) :
    (bS off h).view.read (Elt F) f x = f ((Rect.unit (s := S4096x2048) off S2048x256.size h).emb x) := rfl
/-- An element of that row block. -/
theorem read_oS {off h} (f : Vec F S4096x256 .bf16) (x : S512x256.Idx) :
    (oS off h).view.read (Elt F) f x = f ((Rect.unit (s := S4096x256) off S512x256.size h).emb x) := rfl
/-- An element of that piece of the `w` buffer. -/
theorem read_wS {off h} (f : Vec F S4x4096x512 .f32) (x : S2048x256.Idx) :
    (wS off h).view.read (Elt F) f x = f ((Rect.unit (s := S4x4096x512) off S1x2048x256.size h).emb (Fin.cons ⟨0, Nat.one_pos⟩ x)) := by
  show f ((Rect.unit (s := S4x4096x512) off S1x2048x256.size h).emb (Shape.reshapeEquiv _ x)) = _
  rw [Shape.reshapeEquiv_cons_one]
/-- An element of that block of the product. -/
theorem read_yS {off h} (f : Vec F S8x512x256 .bf16) (x : S512x256.Idx) :
    (yS off h).view.read (Elt F) f x = f ((Rect.unit (s := S8x512x256) off S1x512x256.size h).emb (Fin.cons ⟨0, Nat.one_pos⟩ x)) := by
  show f ((Rect.unit (s := S8x512x256) off S1x512x256.size h).emb (Shape.reshapeEquiv _ x)) = _
  rw [Shape.reshapeEquiv_cons_one]

/-- Half `p` of `x` landed. -/
theorem land_x (c : Dev nD) {p : ℕ} {off off' : Fin 2 → ℕ} {h h'} (ho : off = ![256 * p, 0]) (ho' : off' = ![256 * p, 0]) (fd : Vec F S512x4096 .f32) :
    ((xS off h).view.loc (c : Thread nD τ) ↦[(xS off h).view.set]{fullShare}
        (xS off h).view.write (Elt F) fd ((aS off' h').view.read (Elt F) (XC m c)) Finset.univ : sProp 𝕄) ⊢ xPay m c p := by
  have hr : ∀ x, (xS off h).view.read (Elt F) (XC m c) x = (aS off' h').view.read (Elt F) (XC m c) x := by
    subst ho; subst ho'; intro x; rfl
  rw [pointsTo_congr (write_reads (xS off h).view fd (XC m c) _ hr), set_x ho]
  exact BI.Entails.refl _

/-- A piece of `w` landed: the column block `c + g` into slot `s`, column half `q`, row half `p`. -/
theorem land_w (c : Dev nD) {s p q g : ℕ} (hp : p < 2) (hq : q < 2) (hg : g % 8 = (2 * s + q + 1) % 8) {off : Fin 3 → ℕ} {off' : Fin 2 → ℕ} {h h'}
    (ho : off = ![s, 2048 * p, 256 * q]) (ho' : off' = ![2048 * p, 256 * ((c.val + g) % 8)]) (fd : Vec F S4x4096x512 .f32) :
    ((wS off h).view.loc (c : Thread nD τ) ↦[(wS off h).view.set]{fullShare}
        (wS off h).view.write (Elt F) fd ((bS off' h').view.read (Elt F) (BC m c)) Finset.univ : sProp 𝕄) ⊢ wPay m c (4 * s + 2 * q + p) := by
  have hr : ∀ x, (wS off h).view.read (Elt F) (WC m c) x = (bS off' h').view.read (Elt F) (BC m c) x := by
    subst ho; subst ho'; intro x
    rw [read_wS, read_bS]
    unfold WC
    have hx := lt2 (n0 := 2048) (n1 := 256) x
    congr 1; funext a
    match a with
    | ⟨0, _⟩ =>
      apply Fin.ext
      show (((Rect.unit (s := S4x4096x512) _ S1x2048x256.size h).emb (Fin.cons ⟨0, Nat.one_pos⟩ x) 1 : Fin _) : ℕ) = (((Rect.unit (s := S4096x2048) _ S2048x256.size h').emb x 0 : Fin _) : ℕ)
      rw [emb3, emb2]; rfl
    | ⟨1, _⟩ =>
      apply Fin.ext
      show 256 * ((c.val + (2 * (((Rect.unit (s := S4x4096x512) _ S1x2048x256.size h).emb (Fin.cons ⟨0, Nat.one_pos⟩ x) 0 : Fin _) : ℕ)
          + (((Rect.unit (s := S4x4096x512) _ S1x2048x256.size h).emb (Fin.cons ⟨0, Nat.one_pos⟩ x) 2 : Fin _) : ℕ) / 256 + 1)) % 8)
          + (((Rect.unit (s := S4x4096x512) _ S1x2048x256.size h).emb (Fin.cons ⟨0, Nat.one_pos⟩ x) 2 : Fin _) : ℕ) % 256
        = (((Rect.unit (s := S4096x2048) _ S2048x256.size h').emb x 1 : Fin _) : ℕ)
      rw [emb3, emb3, emb2]
      show 256 * ((c.val + (2 * (s + 0) + (256 * q + (x 1).val) / 256 + 1)) % 8) + (256 * q + (x 1).val) % 256
        = 256 * ((c.val + g) % 8) + (x 1).val
      omega
  rw [pointsTo_congr (write_reads (wS off h).view fd (WC m c) _ hr), set_w hp hq ho]
  exact BI.Entails.refl _

/-- A block landed at the device `g` places on: the row block it has from `g` places behind. -/
theorem land_o (c : Dev nD) {g : ℕ} (hg : g < 8) {off : Fin 2 → ℕ} {off' : Fin 3 → ℕ} {h h'}
    (ho : off = ![512 * c.val, 0]) (ho' : off' = ![g, 0, 0]) (fd : Vec F S4096x256 .bf16) :
    ((oS off h).view.loc (fwd c g : Thread nD τ) ↦[(oS off h).view.set]{fullShare}
        (oS off h).view.write (Elt F) fd ((yS off' h').view.read (Elt F) (YC m c)) Finset.univ : sProp 𝕄) ⊢ oPay m (fwd c g) g := by
  have hc := dev_lt c
  have hrel : ((fwd c g).val + 8 - c.val) % 8 = g := by rw [fwd_val]; omega
  have hr : ∀ x, (oS off h).view.read (Elt F) (OC m (fwd c g)) x = (yS off' h').view.read (Elt F) (YC m c) x := by
    subst ho; subst ho'; intro x
    have hx := lt2 (n0 := 512) (n1 := 256) x
    rw [read_oS, read_yS]
    unfold OC YC
    have e0 : (((Rect.unit (s := S4096x256) ![512 * c.val, 0] S512x256.size h).emb x 0 : Fin _) : ℕ) = 512 * c.val + (x 0).val := by rw [emb2]; rfl
    have e1 : (((Rect.unit (s := S4096x256) ![512 * c.val, 0] S512x256.size h).emb x 1 : Fin _) : ℕ) = 0 + (x 1).val := by rw [emb2]; rfl
    have d0 : (((Rect.unit (s := S8x512x256) ![g, 0, 0] S1x512x256.size h').emb (Fin.cons ⟨0, Nat.one_pos⟩ x) 0 : Fin _) : ℕ) = g + 0 := by rw [emb3]; rfl
    have d1 : (((Rect.unit (s := S8x512x256) ![g, 0, 0] S1x512x256.size h').emb (Fin.cons ⟨0, Nat.one_pos⟩ x) 1 : Fin _) : ℕ) = 0 + (x 0).val := by rw [emb3]; rfl
    have d2 : (((Rect.unit (s := S8x512x256) ![g, 0, 0] S1x512x256.size h').emb (Fin.cons ⟨0, Nat.one_pos⟩ x) 2 : Fin _) : ℕ) = 0 + (x 1).val := by rw [emb3]; rfl
    congr 1
    · exact Fin.ext (by show _ / 512 = c.val; rw [e0]; omega)
    · unfold orel; rw [e0, d0, Nat.add_zero, show (512 * c.val + (x 0).val) / 512 = c.val by omega, hrel]; rfl
    · funext a
      match a with
      | ⟨0, _⟩ => exact Fin.ext (by show _ % 512 = _; rw [e0, d1]; omega)
      | ⟨1, _⟩ => exact Fin.ext (by show (_ : ℕ) = _; rw [e1, d2])
  rw [pointsTo_congr (write_reads (oS off h).view fd (OC m (fwd c g)) _ hr), set_o ho, okey_orel (fwd c g) hc hrel.symm]
  exact BI.Entails.refl _

end Cert.KernelIdealProof

end
-- ==== Proof.ICut.lean ====
module

public import proofs.«01_k».proof.Proof.IMove

/-!
What the kernel's loads read and its stores leave: the product of the rows of `x` with one slot of
the `w` buffer, cut into its two column halves.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads -/

/-- The offset at the corner. -/
theorem zero2 : (![0, 0] : Fin 2 → ℕ) = fun _ => 0 := funext fun a => by fin_cases a <;> rfl

/-- Loading the whole `x` buffer. -/
theorem load_x {off : Fin 2 → ℕ} (ho : off = ![0, 0]) {h} (f : Vec F S512x4096 .f32) :
    xM.view.readAt (Elt F) (Rect.unit (s := S512x4096) off S512x4096.size h).toLoadRect f = f :=
  Memref.readAt_unit_zero (Elt F) cc0_scratch0 (ho.trans zero2) h f

/-- Loading one slot of the filled `w` buffer. -/
theorem load_w (c : Dev nD) (q : Fin 4) {off : Fin 3 → ℕ} (ho : off = ![q.val, 0, 0]) {h} :
    wM.view.readAt (Elt F) (Rect.unit (s := S4x4096x512) off S1x4096x512.size h).toLoadRect (WC m c) = wslot m c q := by
  subst ho; funext x
  have hx := lt3 (n0 := 1) (n1 := 4096) (n2 := 512) x
  show WC m c ((Rect.unit (s := S4x4096x512) ![q.val, 0, 0] S1x4096x512.size h).emb x) = WC m c (ix3 (n0 := 4) (n1 := 4096) (n2 := 512) q (x 1) (x 2))
  congr 1; funext a
  match a with
  | ⟨0, _⟩ =>
    apply Fin.ext
    show (((Rect.unit (s := S4x4096x512) _ S1x4096x512.size h).emb x 0 : Fin _) : ℕ) = q.val
    rw [emb3]; show q.val + (x 0).val = q.val; omega
  | ⟨1, _⟩ =>
    apply Fin.ext
    show (((Rect.unit (s := S4x4096x512) _ S1x4096x512.size h).emb x 1 : Fin _) : ℕ) = (x 1).val
    rw [emb3]; show 0 + (x 1).val = (x 1).val; omega
  | ⟨2, _⟩ =>
    apply Fin.ext
    show (((Rect.unit (s := S4x4096x512) _ S1x4096x512.size h).emb x 2 : Fin _) : ℕ) = (x 2).val
    rw [emb3]; show 0 + (x 2).val = (x 2).val; omega

/-- The elements of one slot are among the pieces landed so far. -/
theorem slot_sub {q n : ℕ} (hn : 4 * q + 4 ≤ n) {off : Fin 3 → ℕ} (ho : off = ![q, 0, 0]) {h} :
    (Rect.unit (s := S4x4096x512) off S1x4096x512.size h).set ⊆ below wkey n := by
  subst ho; intro i hi
  rw [mem_unit3] at hi; rw [mem_below]; unfold wkey
  have := lt3 (n0 := 4) (n1 := 4096) (n2 := 512) i
  simp only [Matrix.cons_val_zero, Matrix.cons_val_one, Matrix.cons_val] at hi; omega

/-! ## Stores -/

/-- Half `h` of a product, as a slot of the product buffer. -/
theorem cut_apply (v : FVec F S512x512 .bf16) {o : Fin 2 → ℕ} {p : ℕ} (hp : p < 2) (ho : o = ![0, 256 * p]) (hs hc) (x : S1x512x256.Idx) :
    shapeCast S1x512x256 (extractStridedSlice S512x256 o v hs) hc x
      = v (ix2 (n0 := 512) (n1 := 512) (x 1) ⟨256 * p + (x 2).val, by have h : (x 2).val < 256 := (x 2).isLt; omega⟩) := by
  subst ho
  have h0 : S512x256.numel = S1x512x256.numel := squeezes_S1x512x256_S512x256.numel_eq
  have hx : x = Shape.reshapeEquiv h0 (ix2 (n0 := 512) (n1 := 256) (x 1) (x 2)) := by
    refine Eq.trans ?_ (Shape.reshapeEquiv_cons_one (n := 2) (d := ![512, 256]) h0 _).symm
    funext a
    match a with
    | ⟨0, _⟩ => exact Fin.ext (by have h : (x 0).val < 1 := (x 0).isLt; show (x 0).val = 0; omega)
    | ⟨1, _⟩ => rfl
    | ⟨2, _⟩ => rfl
  have he : shapeCast S1x512x256 (extractStridedSlice S512x256 ![0, 256 * p] v hs) hc x
      = extractStridedSlice S512x256 ![0, 256 * p] v hs (ix2 (n0 := 512) (n1 := 256) (x 1) (x 2)) := by
    conv_lhs => rw [hx]
    unfold shapeCast
    exact congrArg _ ((Shape.reshapeEquiv_reshapeEquiv hc h0 _).trans (Shape.reshapeEquiv_self _ _))
  rw [he]; unfold extractStridedSlice
  congr 1; funext a
  match a with
  | ⟨0, _⟩ => exact Fin.ext (Nat.zero_add _)
  | ⟨1, _⟩ => rfl

/-- A vector that is one half of the product with slot `q`. -/
def IsCut (c : Dev nD) (g : ℕ) (w : FVec F S1x512x256 .bf16) : Prop :=
  ∀ x : S1x512x256.Idx, w x = blk m c g (ix2 (n0 := 512) (n1 := 256) (x 1) (x 2))

/-- Half `p` of the product with slot `q` is the block that stands there. -/
theorem isCut_of (c : Dev nD) {g : ℕ} (q : Fin 4) {p : ℕ} (hp : p < 2) (hg : pos g = 2 * q.val + p) {o : Fin 2 → ℕ} (ho : o = ![0, 256 * p]) (hs hc) :
    IsCut m c g (shapeCast S1x512x256 (extractStridedSlice S512x256 o (prodq m c q) hs) hc) := by
  intro x
  rw [cut_apply _ hp ho]
  unfold blk
  have e1 : (⟨pos g / 2, by unfold pos; omega⟩ : Fin 4) = q := Fin.ext (by show pos g / 2 = q.val; omega)
  have e2 : pos g % 2 = p := by omega
  rw [e1]
  congr 2
  exact Fin.ext (by show 256 * p + _ = 256 * (pos g % 2) + _; rw [e2])

/-- What is stored for the device 1 further along. -/
theorem cut1 (c : Dev nD) : IsCut m c 1 (k0_pay2 (XC m c) (wslot m c 0)) := isCut_of m c 0 (p := 0) (by decide) rfl rfl _ _
/-- What is stored for the device 2 further along. -/
theorem cut2 (c : Dev nD) : IsCut m c 2 (k0_pay3 (k0_pay1 (XC m c) (wslot m c 0))) := isCut_of m c 0 (p := 1) (by decide) rfl rfl _ _
/-- What is stored for the device 3 further along. -/
theorem cut3 (c : Dev nD) : IsCut m c 3 (k0_pay5 (XC m c) (wslot m c 1)) := isCut_of m c 1 (p := 0) (by decide) rfl rfl _ _
/-- What is stored for the device 4 further along. -/
theorem cut4 (c : Dev nD) : IsCut m c 4 (k0_pay6 (XC m c) (wslot m c 1)) := isCut_of m c 1 (p := 1) (by decide) rfl rfl _ _
/-- What is stored for the device 5 further along. -/
theorem cut5 (c : Dev nD) : IsCut m c 5 (k0_pay8 (XC m c) (wslot m c 2)) := isCut_of m c 2 (p := 0) (by decide) rfl rfl _ _
/-- What is stored for the device 6 further along. -/
theorem cut6 (c : Dev nD) : IsCut m c 6 (k0_pay9 (k0_pay7 (XC m c) (wslot m c 2))) := isCut_of m c 2 (p := 1) (by decide) rfl rfl _ _
/-- What is stored for the device 7 further along. -/
theorem cut7 (c : Dev nD) : IsCut m c 7 (k0_pay11 (XC m c) (wslot m c 3)) := isCut_of m c 3 (p := 0) (by decide) rfl rfl _ _

/-- The device's own block, which goes straight into its result. -/
theorem cut0 (c : Dev nD) (x : S512x256.Idx) : k0_pay12 (XC m c) (wslot m c 3) x = blk m c 0 x := by
  unfold k0_pay12 blk
  show prodq m c 3 _ = prodq m c 3 _
  congr 1; funext a
  match a with
  | ⟨0, _⟩ => exact Fin.ext (Nat.zero_add _)
  | ⟨1, _⟩ => rfl

/-- Storing block `g` into its slot leaves the slot filled. -/
theorem store_y (c : Dev nD) {g : ℕ} {off : Fin 3 → ℕ} (ho : off = ![g, 0, 0]) {h} (f : Vec F S8x512x256 .bf16) {w : FVec F S1x512x256 .bf16}
    (hw : IsCut m c g w) : ∀ i ∈ at_ ykey g,
    (yM.access (Rect.unit (s := S8x512x256) off S1x512x256.size h) : View sig .tc _ _ _).write (Elt F) f w Finset.univ i = YC m c i := by
  subst ho
  rw [← rect_y (g := g) rfl (h := h)]
  rw [← View.set_slice_whole cc0_scratch2 (Rect.unit (s := S8x512x256) ![g, 0, 0] S1x512x256.size h)]
  refine write_reads (F := F) (yM.access (Rect.unit (s := S8x512x256) ![g, 0, 0] S1x512x256.size h) : View sig .tc _ _ _) f (YC m c) w fun x => ?_
  refine Eq.trans ?_ (hw x).symm
  show YC m c ((Rect.unit (s := S8x512x256) ![g, 0, 0] S1x512x256.size h).emb x) = _
  unfold YC
  have hx := lt3 (n0 := 1) (n1 := 512) (n2 := 256) x
  have d0 : (((Rect.unit (s := S8x512x256) ![g, 0, 0] S1x512x256.size h).emb x 0 : Fin _) : ℕ) = g + (x 0).val := by rw [emb3]; rfl
  have d1 : (((Rect.unit (s := S8x512x256) ![g, 0, 0] S1x512x256.size h).emb x 1 : Fin _) : ℕ) = 0 + (x 1).val := by rw [emb3]; rfl
  have d2 : (((Rect.unit (s := S8x512x256) ![g, 0, 0] S1x512x256.size h).emb x 2 : Fin _) : ℕ) = 0 + (x 2).val := by rw [emb3]; rfl
  congr 1
  · rw [d0]; omega
  · funext a
    match a with
    | ⟨0, _⟩ => exact Fin.ext (by show (_ : ℕ) = (x 1).val; rw [d1]; omega)
    | ⟨1, _⟩ => exact Fin.ext (by show (_ : ℕ) = (x 2).val; rw [d2]; omega)

/-- Storing the device's own block fills its own row block of the result. -/
theorem store_o (c : Dev nD) {off : Fin 2 → ℕ} (ho : off = ![512 * c.val, 0]) {h} (f : Vec F S4096x256 .bf16) :
    ∀ i ∈ at_ (orel c) 0,
    (oM.access (Rect.unit (s := S4096x256) off S512x256.size h) : View sig .tc _ _ _).write (Elt F) f (k0_pay12 (XC m c) (wslot m c 3)) Finset.univ i = OC m c i := by
  subst ho
  have hc := dev_lt c
  rw [← okey_orel c hc (g := 0) (by omega), ← rect_o (s := c.val) rfl (h := h)]
  rw [← View.set_slice_whole cc0_stg0_0 (Rect.unit (s := S4096x256) ![512 * c.val, 0] S512x256.size h)]
  refine write_reads (F := F) (oM.access (Rect.unit (s := S4096x256) ![512 * c.val, 0] S512x256.size h) : View sig .tc _ _ _) f (OC m c)
    (k0_pay12 (XC m c) (wslot m c 3)) fun x => ?_
  refine Eq.trans ?_ (cut0 m c x).symm
  show OC m c ((Rect.unit (s := S4096x256) ![512 * c.val, 0] S512x256.size h).emb x) = _
  unfold OC
  have hx := lt2 (n0 := 512) (n1 := 256) x
  have e0 : (((Rect.unit (s := S4096x256) ![512 * c.val, 0] S512x256.size h).emb x 0 : Fin _) : ℕ) = 512 * c.val + (x 0).val := by rw [emb2]; rfl
  have e1 : (((Rect.unit (s := S4096x256) ![512 * c.val, 0] S512x256.size h).emb x 1 : Fin _) : ℕ) = 0 + (x 1).val := by rw [emb2]; rfl
  congr 1
  · exact Fin.ext (by show _ / 512 = c.val; rw [e0]; omega)
  · unfold orel; rw [e0]; omega
  · funext a
    match a with
    | ⟨0, _⟩ => exact Fin.ext (by show _ % 512 = (x 0).val; rw [e0]; omega)
    | ⟨1, _⟩ => exact Fin.ext (by show (_ : ℕ) = (x 1).val; rw [e1]; omega)

end Cert.KernelIdealProof

end
-- ==== Proof.IStep.lean ====
module

public import proofs.«01_k».proof.Proof.ICut

/-!
The state a device is in between two operations of the kernel, and, for every kind of operation,
how it moves the state on.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop needs a bound. -/
abbrev 𝒱₀ : Variants := Variants.none

variable (K : Dev nD × Fin 35 → ℕ)

/-- The kernel's program on device `c`, to be proved to end in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows throughout -/

/-- The levels, every cell's invariant, and that every cell has been opened. -/
def ctx : sProp 𝕄 :=
  iprop(levAts L lv ∗ (bigSep Finset.univ fun ck : Dev nD × Fin 35 => cellInv EX (plan m) (K ck) (cell ck))
    ∗ bigSep Finset.univ fun ck : Dev nD × Fin 35 => reached EX (cell ck) 0)

/-- What is known of the cells stays known. -/
instance ctx_persistent : BI.Persistent (ctx m K) := by unfold ctx; infer_instance

/-- A cell's number. -/
abbrev kx (n : ℕ) : Fin 35 := ⟨n % 35, Nat.mod_lt _ (by decide)⟩

/-- Cell 0 is the barrier cell. -/
theorem cell_bar (c : Dev nD) : cell (c, kx 0) = barC c := rfl
/-- The others are transfer cells. -/
theorem cell_tr (c : Dev nD) {n : ℕ} (h : n % 35 ≠ 0) : cell (c, kx n) = trC c n := by
  unfold cell csem trC
  rw [if_neg h]
  exact congrArg (fun k : Fin 35 => ((c : Thread nD τ), SemLoc.dma (sig := sig) k)) (Fin.ext (Nat.mod_mod _ _))

/-- The levels are known. -/
theorem ctx_lev : ctx m K ⊢ (levAts L lv : sProp 𝕄) := by unfold ctx; iintro ⟨H, -, -⟩; iexact H
/-- The rule of every cell is known. -/
theorem ctx_inv (c : Dev nD) (k : Fin 35) : ctx m K ⊢ cellInv EX (plan m) (K (c, k)) (cell (c, k)) := by
  have hb : (bigSep Finset.univ fun ck : Dev nD × Fin 35 => (cellInv EX (plan m) (K ck) (cell ck) : sProp 𝕄)) ⊢ cellInv EX (plan m) (K (c, k)) (cell (c, k)) :=
    bigSep_elim (Finset.mem_univ (c, k))
  unfold ctx; iintro ⟨-, H, -⟩
  iapply hb; iexact H
/-- Every cell has reached its first round. -/
theorem ctx_rch (c : Dev nD) (k : Fin 35) : ctx m K ⊢ (reached EX (cell (c, k)) 0 : sProp 𝕄) := by
  have hb : (bigSep Finset.univ fun ck : Dev nD × Fin 35 => (reached EX (cell ck) 0 : sProp 𝕄)) ⊢ reached EX (cell (c, k)) 0 :=
    bigSep_elim (Finset.mem_univ (c, k))
  unfold ctx; iintro ⟨-, -, H⟩
  iapply hb; iexact H
/-- The rule of every transfer cell is known. -/
theorem ctx_inv_tr (c : Dev nD) {n : ℕ} (h : n % 35 ≠ 0) : ctx m K ⊢ cellInv EX (plan m) (K (c, kx n)) (trC c n) := by
  rw [← cell_tr c h]; exact ctx_inv m K c _
/-- Every transfer cell has reached its first round. -/
theorem ctx_rch_tr (c : Dev nD) {n : ℕ} (h : n % 35 ≠ 0) : ctx m K ⊢ (reached EX (trC c n) 0 : sProp 𝕄) := by
  rw [← cell_tr c h]; exact ctx_rch m K c _

/-! ## The items of a state -/

/-- A barrier signal to send: its duty, and the leave it hands over. -/
def sigI (c : Dev nD) (g : ℕ) : sProp 𝕄 :=
  iprop(dutyTok EX (barC (fwd c g)) 0 (dn (8 - g)) ∗ ∃ f, (c : Thread nD τ).loc cc0_stg0_0 ↦[at_ okey (fwd c g).val]{fullShare} f)
/-- A half of `x` to start copying. -/
def xI (c : Dev nD) (p : ℕ) : sProp 𝕄 :=
  iprop(dutyTok EX (trC c (1 + p)) 0 0 ∗ atPos EX (trC c (1 + p)) 0 ∅ 0 ∗ (∃ f, (c : Thread nD τ).loc cc0_scratch0 ↦[at_ xkey p]{fullShare} f)
    ∗ ((c : Thread nD τ).loc main_arg0 ↦[at_ xkey p]{fullShare.right} XC m c))
/-- A half of `x` on its way. -/
def xF (c : Dev nD) (p : ℕ) : sProp 𝕄 := iprop(atPos EX (trC c (1 + p)) 0 ∅ 0 ∗ cred (tallyAt (trC c (1 + p)) () NX))
/-- Which piece of `w` is copied `j`-th. -/
def bidx (c : Dev nD) (j : ℕ) : ℕ := 2 * ((c.val + (j / 2 + 1)) % 8) + j % 2
/-- A piece of `w` to start copying. -/
def wI (c : Dev nD) (j : ℕ) : sProp 𝕄 :=
  iprop(dutyTok EX (trC c (3 + j)) 0 0 ∗ atPos EX (trC c (3 + j)) 0 ∅ 0 ∗ (∃ f, (c : Thread nD τ).loc cc0_scratch1 ↦[at_ wkey j]{fullShare} f)
    ∗ ((c : Thread nD τ).loc main_arg1 ↦[at_ bkey (bidx c j)]{fullShare.right} BC m c))
/-- A piece of `w` on its way. -/
def wF (c : Dev nD) (j : ℕ) : sProp 𝕄 := iprop(atPos EX (trC c (3 + j)) 0 ∅ 0 ∗ cred (tallyAt (trC c (3 + j)) () NW))
/-- The barrier to wait at. -/
def barI (c : Dev nD) (_ : ℕ) : sProp 𝕄 := iprop(atPos EX (barC c) 0 ∅ 0 ∗ cred (tallyAt (barC c) () 7))
/-- A slot of the product buffer to fill. -/
def yI (c : Dev nD) (g : ℕ) : sProp 𝕄 := iprop(∃ f, (c : Thread nD τ).loc cc0_scratch2 ↦[at_ ykey g]{fullShare} f)
/-- A send to make. -/
def sI (c : Dev nD) (g : ℕ) : sProp 𝕄 :=
  iprop(dutyTok EX (trC c (19 + g)) 0 0 ∗ atPos EX (trC c (19 + g)) 0 ∅ 0 ∗ dutyTok EX (trC (fwd c g) (27 + g)) 0 0)
/-- A send under way. -/
def sF (c : Dev nD) (g : ℕ) : sProp 𝕄 := iprop(atPos EX (trC c (19 + g)) 0 ∅ 0 ∗ cred (tallyAt (trC c (19 + g)) () NB))
/-- A receipt to wait for. -/
def rI (c : Dev nD) (g : ℕ) : sProp 𝕄 := iprop(atPos EX (trC c (27 + g)) 0 ∅ 0 ∗ cred (tallyAt (trC c (27 + g)) () NB))
/-- The device's own row block of its result, to fill. -/
def oI (c : Dev nD) (_ : ℕ) : sProp 𝕄 := iprop(∃ f, (c : Thread nD τ).loc cc0_stg0_0 ↦[at_ (orel c) 0]{fullShare} f)
/-- A cell closed with its counter at zero. -/
def zI (c : Dev nD) (n : ℕ) : sProp 𝕄 := semVal (cell (c, kx n)) 0

/-- What a signal takes, written out. -/
theorem sigI_eq (c : Dev nD) (g : ℕ) : sigI (F := F) c g
    = iprop(dutyTok EX (barC (fwd c g)) 0 (dn (8 - g)) ∗ ∃ f, (c : Thread nD τ).loc cc0_stg0_0 ↦[at_ okey (fwd c g).val]{fullShare} f) := rfl
/-- What a copy of half the rows takes, written out. -/
theorem xI_eq (c : Dev nD) (p : ℕ) : xI m c p
    = iprop(dutyTok EX (trC c (1 + p)) 0 0 ∗ atPos EX (trC c (1 + p)) 0 ∅ 0 ∗ (∃ f, (c : Thread nD τ).loc cc0_scratch0 ↦[at_ xkey p]{fullShare} f)
      ∗ ((c : Thread nD τ).loc main_arg0 ↦[at_ xkey p]{fullShare.right} XC m c)) := rfl
/-- What a copy of a piece of `w` takes, written out. -/
theorem wI_eq (c : Dev nD) (j : ℕ) : wI m c j
    = iprop(dutyTok EX (trC c (3 + j)) 0 0 ∗ atPos EX (trC c (3 + j)) 0 ∅ 0 ∗ (∃ f, (c : Thread nD τ).loc cc0_scratch1 ↦[at_ wkey j]{fullShare} f)
      ∗ ((c : Thread nD τ).loc main_arg1 ↦[at_ bkey (bidx c j)]{fullShare.right} BC m c)) := rfl
/-- A copy of half the rows under way, written out. -/
theorem xF_eq (c : Dev nD) (p : ℕ) : xF (F := F) c p = iprop(atPos EX (trC c (1 + p)) 0 ∅ 0 ∗ cred (tallyAt (trC c (1 + p)) () NX)) := rfl
/-- A copy of a piece of `w` under way, written out. -/
theorem wF_eq (c : Dev nD) (j : ℕ) : wF (F := F) c j = iprop(atPos EX (trC c (3 + j)) 0 ∅ 0 ∗ cred (tallyAt (trC c (3 + j)) () NW)) := rfl
/-- A block on its way out, written out. -/
theorem sF_eq (c : Dev nD) (g : ℕ) : sF (F := F) c g = iprop(atPos EX (trC c (19 + g)) 0 ∅ 0 ∗ cred (tallyAt (trC c (19 + g)) () NB)) := rfl
/-- A block awaited, written out. -/
theorem rI_eq (c : Dev nD) (g : ℕ) : rI (F := F) c g = iprop(atPos EX (trC c (27 + g)) 0 ∅ 0 ∗ cred (tallyAt (trC c (27 + g)) () NB)) := rfl
/-- The barrier awaited, written out. -/
theorem barI_eq (c : Dev nD) (n : ℕ) : barI (F := F) c n = iprop(atPos EX (barC c) 0 ∅ 0 ∗ cred (tallyAt (barC c) () 7)) := rfl
/-- A block of the product not yet stored, written out. -/
theorem yI_eq (c : Dev nD) (g : ℕ) : yI (F := F) c g = iprop(∃ f, (c : Thread nD τ).loc cc0_scratch2 ↦[at_ ykey g]{fullShare} f) := rfl
/-- The device's own row block not yet stored, written out. -/
theorem oI_eq (c : Dev nD) (n : ℕ) : oI (F := F) c n = iprop(∃ f, (c : Thread nD τ).loc cc0_stg0_0 ↦[at_ (orel c) 0]{fullShare} f) := rfl
/-- What a send takes, written out. -/
theorem sI_eq (c : Dev nD) (g : ℕ) : sI (F := F) c g
    = iprop(dutyTok EX (trC c (19 + g)) 0 0 ∗ atPos EX (trC c (19 + g)) 0 ∅ 0 ∗ dutyTok EX (trC (fwd c g) (27 + g)) 0 0) := rfl
/-- The leave to fill a row block, written out. -/
theorem leave_eq (c : Dev nD) (g : ℕ) : leave (F := F) c g = iprop(∃ f, (fwd c g : Thread nD τ).loc cc0_stg0_0 ↦[at_ okey c.val]{fullShare} f) := rfl

/-- The state: signals `sg` and sends `ss` to make (and owed); halves of `x` to start (`xs`), on their way (`xf`) and
    landed (the first `xd`); pieces of `w` likewise; the barrier to wait at (`bw`) or its leaves in hand (`lf`); slots of the
    product buffer to fill (`yt`), filled (`ys`), and free again (`yb`); sends under way (`sf`); receipts to wait for (`rv`); the
    own row block to fill (`ot`); the first `on` row blocks of the result filled; the cells closed (`zs`). -/
def St (c : Dev nD) (sg ss xs xf : List ℕ) (xd : ℕ) (ws wf : List ℕ) (wd : ℕ) (bw lf yt ys yb sf rv ot : List ℕ) (on : ℕ) (zs : List ℕ) : sProp 𝕄 :=
  iprop(ctx m K ∗ (∃ W, owes (c : Thread nD τ) (owe c ss sg) W) ∗ each (sigI c) sg
    ∗ each (xI m c) xs ∗ each (xF c) xf ∗ ((c : Thread nD τ).loc cc0_scratch0 ↦[below xkey xd]{fullShare} XC m c)
    ∗ each (wI m c) ws ∗ each (wF c) wf ∗ ((c : Thread nD τ).loc cc0_scratch1 ↦[below wkey wd]{fullShare} WC m c)
    ∗ each (barI c) bw ∗ each (leave c) lf ∗ each (yI c) yt ∗ each (yPay m c) ys ∗ each (yPay m c) yb
    ∗ each (sI c) ss ∗ each (sF c) sf ∗ each (rI c) rv
    ∗ each (oI c) ot ∗ ((c : Thread nD τ).loc cc0_stg0_0 ↦[below (orel c) on]{fullShare} OC m c) ∗ each (zI c) zs)

variable {c : Dev nD} {g p j : ℕ} {sg ss xs xf ws wf bw lf yt ys yb sf rv ot zs : List ℕ} {xd wd on : ℕ}

/-! ## Signals -/

/-- What a signal hands over: the row block the device signalled will fill. -/
theorem payload_sig (hg : g ≤ 7) (h0 : 1 ≤ g) : (plan (F := F) m).payload (barC (fwd c g)) 0 (dn (8 - g))
    = iprop(∃ f, (c : Thread nD τ).loc cc0_stg0_0 ↦[at_ okey (fwd c g).val]{fullShare} f) := by
  rw [payload_bar]; unfold leave
  rw [show (dn (8 - g)).val = 8 - g from Nat.mod_eq_of_lt (by omega), fwd_back c (by omega)]

/-- A barrier signal to the device `g` places on. -/
theorem step_signal {α : Type} {Q : α → sProp 𝕄} {k : PUnit → Prog (TpuEff nD τ sig (Elt F) Λ₀ .tc) α} {dst : Dev nD} (hd : dst = fwd c g) {n : ℤ} (hn : n = ((1 : ℕ) : ℤ)) (hg : 1 ≤ g ∧ g ≤ 7)
    (h : St m K c sg ss xs xf xd ws wf wd bw lf yt ys yb sf rv ot on zs ⊢ runs c (k ⟨⟩) Q) :
    St m K c (g :: sg) ss xs xf xd ws wf wd bw lf yt ys yb sf rv ot on zs ⊢ runs c (.op (.semSignal (dst : Thread nD τ) barS n) k) Q := by
  subst hd; subst hn
  unfold St at h ⊢
  rw [each_cons, sigI_eq c g]
  iintro ⟨#HC, ⟨%W, Ho⟩, ⟨⟨Ht, Hf⟩, Hsg⟩, Hr⟩
  iapply (Rounds.wp_signal 𝒱₀ EX (plan m) (c : Thread nD τ) none (dst := (fwd c g : Thread nD τ)) (κ := K (fwd c g, kx 0)) (d := dn (8 - g))
      (by rw [duties_bar]; exact Finset.mem_erase.mpr ⟨fun e => by have := congrArg Fin.val e; simp only [Fin.val_zero] at this; omega, Finset.mem_univ _⟩)
      (amount_bar m (fwd c g) _) () (owe c ss sg) rfl) $$ [Ho Ht Hf]
  · isplitr; · iapply (ctx_inv m K (fwd c g) (kx 0)); iexact HC
    isplitl [Ho]; · iexact Ho
    isplitl [Ht]; · iexact Ht
    isplitl [Hf]; · rw [payload_sig m hg.2 hg.1]; iexact Hf
    iapply (ctx_rch m K (fwd c g) (kx 0)); iexact HC
  iintro Ho
  iapply h
  iframe Hsg Hr
  isplitr; · iexact HC
  iexists W; iexact Ho

/-! ## Copies into the `x` and `w` buffers -/

/-- Which transfer cells are used. -/
theorem used_tr {n : ℕ} (h : n < 35) (h0 : n ≠ 0 ∧ n ≠ 19 ∧ n ≠ 27) : used (n % 35) = true ∧ n % 35 ≠ 0 := by
  rw [Nat.mod_eq_of_lt h]; unfold used; simp [h0]

/-- Starting the copy of half `p` of `x`. -/
theorem step_x {α : Type} {Q : α → sProp 𝕄} {k : PUnit → Prog (TpuEff nD τ sig (Elt F) Λ₀ .tc) α} {off off' : Fin 2 → ℕ} {h₁ h₂} {sm : DmaSem sig}
    {hsrc hdst hsem} (hsm : sm = tsem (1 + p)) (ho : off = ![256 * p, 0]) (ho' : off' = ![256 * p, 0]) (hp : p < 2)
    (h : St m K c sg ss xs (xf ++ [p]) xd ws wf wd bw lf yt ys yb sf rv ot on zs ⊢ runs c (k ⟨⟩) Q) :
    St m K c sg ss (p :: xs) xf xd ws wf wd bw lf yt ys yb sf rv ot on zs
      ⊢ runs c (.op (.enqueueDma (aS off' h₂) (.here (xS off h₁)) (.dma sm) hsrc hdst hsem) k) Q := by
  subst hsm
  obtain ⟨hu, hn⟩ := used_tr (n := 1 + p) (by omega) (by omega)
  unfold St at h ⊢
  rw [each_cons, xI_eq m c p]
  iintro ⟨#HC, Ho, Hsg, ⟨⟨Ht, Ha, ⟨%f, Hx⟩, Hs⟩, Hxs⟩, Hxf, Hr⟩
  iapply (Rounds.wp_copy_pointsTo 𝒱₀ EX (plan m) (c : Thread nD τ) none (κ := K (c, kx (1 + p))) (q := fullShare.right) (fs := XC m c) (fd := f) (r := 0) (d := 0)
      (sem := .dma (tsem (1 + p))) (src := aS off' h₂) (dst := xS off h₁)
      (by rw [duties_tr m c _ hu]; exact Finset.mem_singleton_self _) () NX rfl ((amount_tr m c _ _).trans (trAmt_x hp))
      (by
        rw [payload_tr, trPay_x m c hp]
        exact (sep_mono_left (land_x m c ho ho' f)).trans (by iintro ⟨H, -⟩; iexact H))) $$ [Ht Hx Hs]
  · isplitr; · iapply (ctx_inv_tr m K c hn); iexact HC
    isplitl [Hs]; · rw [set_a ho']; iexact Hs
    isplitl [Hx]; · rw [set_x ho]; iexact Hx
    isplitl [Ht]; · iexact Ht
    iapply (ctx_rch_tr m K c hn); iexact HC
  iintro Hc
  iapply h
  iframe Ho Hsg Hxs Hr
  isplitr; · iexact HC
  iapply (each_snoc (xF c) p xf)
  unfold xF; iframe

/-- Starting the copy of piece `4 s + 2 q + p` of `w`. -/
theorem step_w {α : Type} {Q : α → sProp 𝕄} {k : PUnit → Prog (TpuEff nD τ sig (Elt F) Λ₀ .tc) α} {off : Fin 3 → ℕ} {off' : Fin 2 → ℕ} {h₁ h₂} {sm : DmaSem sig}
    {hsrc hdst hsem} {s q r : ℕ} (hj : j = 4 * s + 2 * q + p) (hsm : sm = tsem (3 + j)) (hs : s < 4) (hp : p < 2) (hq : q < 2) (hr : r % 8 = (2 * s + q + 1) % 8)
    (ho : off = ![s, 2048 * p, 256 * q]) (ho' : off' = ![2048 * p, 256 * ((c.val + r) % 8)])
    (h : St m K c sg ss xs xf xd ws (wf ++ [j]) wd bw lf yt ys yb sf rv ot on zs ⊢ runs c (k ⟨⟩) Q) :
    St m K c sg ss xs xf xd (j :: ws) wf wd bw lf yt ys yb sf rv ot on zs
      ⊢ runs c (.op (.enqueueDma (bS off' h₂) (.here (wS off h₁)) (.dma sm) hsrc hdst hsem) k) Q := by
  subst hsm
  obtain ⟨hu, hn⟩ := used_tr (n := 3 + j) (by omega) (by omega)
  have hb : bidx c j = 2 * ((c.val + r) % 8) + p := by unfold bidx; omega
  unfold St at h ⊢
  rw [each_cons (wI m c), wI_eq m c j, hb]
  iintro ⟨#HC, Ho, Hsg, Hxs, Hxf, Hxd, ⟨⟨Ht, Ha, ⟨%f, Hx⟩, Hs⟩, Hws⟩, Hwf, Hr⟩
  iapply (Rounds.wp_copy_pointsTo 𝒱₀ EX (plan m) (c : Thread nD τ) none (κ := K (c, kx (3 + j))) (q := fullShare.right) (fs := BC m c) (fd := f) (r := 0) (d := 0)
      (sem := .dma (tsem (3 + j))) (src := bS off' h₂) (dst := wS off h₁)
      (by rw [duties_tr m c _ hu]; exact Finset.mem_singleton_self _) () NW rfl ((amount_tr m c _ _).trans (trAmt_w (by omega)))
      (by
        rw [payload_tr, trPay_w m c (by omega), hj]
        exact (sep_mono_left (land_w m c hp hq hr ho ho' f)).trans (by iintro ⟨H, -⟩; iexact H))) $$ [Ht Hx Hs]
  · isplitr; · iapply (ctx_inv_tr m K c hn); iexact HC
    isplitl [Hs]; · rw [set_b hp ho']; iexact Hs
    isplitl [Hx]; · rw [set_w hp hq ho, ← hj]; iexact Hx
    isplitl [Ht]; · iexact Ht
    iapply (ctx_rch_tr m K c hn); iexact HC
  iintro Hc
  iapply h
  iframe Ho Hsg Hxs Hxf Hxd Hws Hr
  isplitr; · iexact HC
  iapply (each_snoc (wF c) j wf)
  unfold wF; iframe

/-! ## Waits -/

/-- A wait on a transfer cell in use: what the transfer brought, and the cell closed. -/
theorem wait_tr {α : Type} {Q : α → sProp 𝕄} {k : PUnit → Prog (TpuEff nD τ sig (Elt F) Λ₀ .tc) α} {n N : ℕ} (hn : n < 35) (h0 : n ≠ 0 ∧ n ≠ 19 ∧ n ≠ 27) (hN : trAmt (n % 35) = N)
    {sp sp' : Space} {s s' : Shape} {e e' : EltTy} {src : Memref sig .tc sp s e} {dst : Memref sig .tc sp' s' e'} {h₁ h₂}
    (hd : dst.view.dmaCredit = N) (O : CellTallies nD τ sig Unit) (hm : (levAts L lv : sProp 𝕄) ⊢ MayWait (c : Thread nD τ) (.dma (tsem n)) () O) :
    iprop(ctx m K ∗ (∃ W, owes (c : Thread nD τ) O W) ∗ atPos EX (trC c n) 0 ∅ 0 ∗ cred (tallyAt (trC c n) () N))
      ⊢ iprop((((∃ W, owes (c : Thread nD τ) O W) ∗ trPay m c n ∗ zI c n) -∗ runs c (k ⟨⟩) Q)
        -∗ runs c (.op (.waitDma2 (tsem n) src dst h₁ h₂) k) Q) := by
  subst hd
  obtain ⟨hu, h0⟩ := used_tr hn h0
  iintro ⟨#HC, ⟨%W, Ho⟩, Ha, Hc⟩
  iintro Hk
  iapply (Rounds.wp_wait_rest_token 𝒱₀ EX (plan m) (c : Thread nD τ) none (κ := K (c, kx n))
      (wpE_waitDma2_eq 𝒱₀ (c : Thread nD τ) none Set.univ) (Set.mem_univ _) () (O := O) (W := W) (R := 0) (m := 0) (T := ∅)
      (by rw [Nat.zero_add, expect_tr m c n hu, hN])) $$ [Hc Ho Ha]
  · isplitr; · iapply (ctx_inv_tr m K c h0); iexact HC
    isplitl [Hc]; · iexact Hc
    isplitl [Ho]; · iexact Ho
    isplitr; · iapply hm; iapply (ctx_lev m K); iexact HC
    iexact Ha
  iintro ⟨Ho, Ha, -, Hp⟩
  imod (Rounds.cell_close EX (plan m) (Set.mem_univ (K (c, kx n))) (fun h => h) (R := 0 + 1) (duties_later m (trC c n))) $$ [Ha] with Hz
  · isplitr; · iapply (ctx_inv_tr m K c h0); iexact HC
    iexact Ha
  ihave Hp := (Entails.of_eq ((rest_tr m c n hu).trans (congrArg (trPay m c) (Nat.mod_eq_of_lt hn)))) $$ Hp
  iapply Hk
  isplitl [Ho]; · iexists _; iexact Ho
  isplitl [Hp]; · iexact Hp
  unfold zI; rw [cell_tr c h0]; iexact Hz

/-- A device may wait on its own copies whatever it owes. -/
theorem owed_low {n : ℕ} (hn : n < 27) (hs : ∀ a ∈ ss, a < 8) :
    (levAts L lv : sProp 𝕄) ⊢ MayWait (c : Thread nD τ) (.dma (tsem n)) () (owe c ss sg) :=
  mayWait_low c (tsem n) (by show n % 35 < 27; omega) hs sg

/-- Half `p` of `x` has landed. -/
theorem step_xwait {α : Type} {Q : α → sProp 𝕄} {k : PUnit → Prog (TpuEff nD τ sig (Elt F) Λ₀ .tc) α} {sm : DmaSem sig}
    {sp sp' : Space} {s s' : Shape} {e e' : EltTy} {src : Memref sig .tc sp s e} {dst : Memref sig .tc sp' s' e'} {h₁ h₂}
    (hsm : sm = tsem (1 + p)) (hp : p < 2) (hd : dst.view.dmaCredit = NX) (hs : ∀ a ∈ ss, a < 8)
    (h : St m K c sg ss xs xf (p + 1) ws wf wd bw lf yt ys yb sf rv ot on ((1 + p) :: zs) ⊢ runs c (k ⟨⟩) Q) :
    St m K c sg ss xs (p :: xf) p ws wf wd bw lf yt ys yb sf rv ot on zs ⊢ runs c (.op (.waitDma2 sm src dst h₁ h₂) k) Q := by
  subst hsm
  unfold St at h ⊢
  rw [each_cons, xF_eq]
  iintro ⟨#HC, Ho, Hsg, Hxs, ⟨⟨Ha, Hc⟩, Hxf⟩, Hxd, Hws, Hwf, Hwd, Hbw, Hlf, Hyt, Hys, Hyb, Hss, Hsf, Hrv, Hot, Hon, Hzs⟩
  iapply (wait_tr m K (n := 1 + p) (by omega) (by omega) (trAmt_x hp) hd (owe c ss sg) (owed_low (by omega) hs)) $$ [Ho Ha Hc]
  · iframe; iexact HC
  iintro ⟨Ho, Hp, Hz⟩
  ihave Hp := (Entails.of_eq ((congrArg (trPay m c) (Nat.mod_eq_of_lt (by omega : 1 + p < 35))).symm.trans (trPay_x m c hp))) $$ Hp
  ihave Hxd := (show iprop(((c : Thread nD τ).loc cc0_scratch0 ↦[below xkey p]{fullShare} XC m c) ∗ xPay m c p)
      ⊢ ((c : Thread nD τ).loc cc0_scratch0 ↦[below xkey (p + 1)]{fullShare} XC m c : sProp 𝕄) from by
    rw [below_succ]; exact (pointsTo_union (below_at_disjoint xkey p)).2) $$ [Hxd Hp]
  · iframe
  iapply h
  rw [each_cons (zI c)]
  iframe
  iexact HC

/-- Piece `j` of `w` has landed. -/
theorem step_wwait {α : Type} {Q : α → sProp 𝕄} {k : PUnit → Prog (TpuEff nD τ sig (Elt F) Λ₀ .tc) α} {sm : DmaSem sig}
    {sp sp' : Space} {s s' : Shape} {e e' : EltTy} {src : Memref sig .tc sp s e} {dst : Memref sig .tc sp' s' e'} {h₁ h₂}
    (hsm : sm = tsem (3 + j)) (hj : j < 16) (hd : dst.view.dmaCredit = NW) (hs : ∀ a ∈ ss, a < 8)
    (h : St m K c sg ss xs xf xd ws wf (j + 1) bw lf yt ys yb sf rv ot on ((3 + j) :: zs) ⊢ runs c (k ⟨⟩) Q) :
    St m K c sg ss xs xf xd ws (j :: wf) j bw lf yt ys yb sf rv ot on zs ⊢ runs c (.op (.waitDma2 sm src dst h₁ h₂) k) Q := by
  subst hsm
  unfold St at h ⊢
  rw [each_cons (wF c), wF_eq]
  iintro ⟨#HC, Ho, Hsg, Hxs, Hxf, Hxd, Hws, ⟨⟨Ha, Hc⟩, Hwf⟩, Hwd, Hbw, Hlf, Hyt, Hys, Hyb, Hss, Hsf, Hrv, Hot, Hon, Hzs⟩
  iapply (wait_tr m K (n := 3 + j) (by omega) (by omega) (trAmt_w hj) hd (owe c ss sg) (owed_low (by omega) hs)) $$ [Ho Ha Hc]
  · iframe; iexact HC
  iintro ⟨Ho, Hp, Hz⟩
  ihave Hp := (Entails.of_eq ((congrArg (trPay m c) (Nat.mod_eq_of_lt (by omega : 3 + j < 35))).symm.trans (trPay_w m c hj))) $$ Hp
  ihave Hwd := (show iprop(((c : Thread nD τ).loc cc0_scratch1 ↦[below wkey j]{fullShare} WC m c) ∗ wPay m c j)
      ⊢ ((c : Thread nD τ).loc cc0_scratch1 ↦[below wkey (j + 1)]{fullShare} WC m c : sProp 𝕄) from by
    rw [below_succ]; exact (pointsTo_union (below_at_disjoint wkey j)).2) $$ [Hwd Hp]
  · iframe
  iapply h
  rw [each_cons (zI c)]
  iframe
  iexact HC

/-- The block from `g` places behind has arrived. -/
theorem step_recv {α : Type} {Q : α → sProp 𝕄} {k : PUnit → Prog (TpuEff nD τ sig (Elt F) Λ₀ .tc) α} {sm : DmaSem sig}
    {sp sp' : Space} {s s' : Shape} {e e' : EltTy} {src : Memref sig .tc sp s e} {dst : Memref sig .tc sp' s' e'} {h₁ h₂}
    (hsm : sm = tsem (27 + g)) (hg : 1 ≤ g ∧ g < 8) (hd : dst.view.dmaCredit = NB)
    (h : St m K c [] [] xs xf xd ws wf wd bw lf yt ys yb sf rv ot (g + 1) ((27 + g) :: zs) ⊢ runs c (k ⟨⟩) Q) :
    St m K c [] [] xs xf xd ws wf wd bw lf yt ys yb sf (g :: rv) ot g zs ⊢ runs c (.op (.waitDma2 sm src dst h₁ h₂) k) Q := by
  subst hsm
  unfold St at h ⊢
  rw [each_cons (rI c), rI_eq]
  iintro ⟨#HC, Ho, Hsg, Hxs, Hxf, Hxd, Hws, Hwf, Hwd, Hbw, Hlf, Hyt, Hys, Hyb, Hss, Hsf, ⟨⟨Ha, Hc⟩, Hrv⟩, Hot, Hon, Hzs⟩
  iapply (wait_tr m K (n := 27 + g) (by omega) (by omega) (by rw [show (27 + g) % 35 = (19 + (8 + g)) % 35 by omega]; exact trAmt_b (by omega)) hd (owe c [] [])
      (show (levAts L lv : sProp 𝕄) ⊢ MayWait (c : Thread nD τ) (.dma (tsem (27 + g))) () 0 from by rw [MayWait_zero]; iintro -; iempintro)) $$ [Ho Ha Hc]
  · iframe; iexact HC
  iintro ⟨Ho, Hp, Hz⟩
  ihave Hp := (Entails.of_eq ((congrArg (trPay m c) (Nat.mod_eq_of_lt (by omega : 27 + g < 35))).symm.trans (trPay_o m c hg.2))) $$ Hp
  ihave Hon := (show iprop(((c : Thread nD τ).loc cc0_stg0_0 ↦[below (orel c) g]{fullShare} OC m c) ∗ oPay m c g)
      ⊢ ((c : Thread nD τ).loc cc0_stg0_0 ↦[below (orel c) (g + 1)]{fullShare} OC m c : sProp 𝕄) from by
    rw [below_succ]; exact (pointsTo_union (below_at_disjoint (orel c) g)).2) $$ [Hon Hp]
  · iframe
  iapply h
  rw [each_cons (zI c)]
  iframe
  iexact HC

/-- The send to `g` places on has left: its slot of the product buffer is free again. -/
theorem step_sent {α : Type} {Q : α → sProp 𝕄} {k : PUnit → Prog (TpuEff nD τ sig (Elt F) Λ₀ .tc) α} {sm : DmaSem sig}
    {sp sp' : Space} {s s' : Shape} {e e' : EltTy} {src : Memref sig .tc sp s e} {dst : Memref sig .tc sp' s' e'} {h₁ h₂}
    (hsm : sm = tsem (19 + g)) (hg : 1 ≤ g ∧ g < 8) (hd : dst.view.dmaCredit = NB) (hs : ∀ a ∈ ss, a < 8)
    (h : St m K c sg ss xs xf xd ws wf wd bw lf yt ys (yb ++ [g]) sf rv ot on ((19 + g) :: zs) ⊢ runs c (k ⟨⟩) Q) :
    St m K c sg ss xs xf xd ws wf wd bw lf yt ys yb (g :: sf) rv ot on zs ⊢ runs c (.op (.waitDma2 sm src dst h₁ h₂) k) Q := by
  subst hsm
  unfold St at h ⊢
  rw [each_cons (sF c), sF_eq]
  iintro ⟨#HC, Ho, Hsg, Hxs, Hxf, Hxd, Hws, Hwf, Hwd, Hbw, Hlf, Hyt, Hys, Hyb, Hss, ⟨⟨Ha, Hc⟩, Hsf⟩, Hrv, Hot, Hon, Hzs⟩
  iapply (wait_tr m K (n := 19 + g) (by omega) (by omega) (trAmt_b (by omega)) hd (owe c ss sg) (owed_low (by omega) hs)) $$ [Ho Ha Hc]
  · iframe; iexact HC
  iintro ⟨Ho, Hp, Hz⟩
  ihave Hp := (Entails.of_eq ((congrArg (trPay m c) (Nat.mod_eq_of_lt (by omega : 19 + g < 35))).symm.trans (trPay_y m c hg.2))) $$ Hp
  ihave Hyb := (each_snoc (yPay m c) g yb) $$ [Hyb Hp]
  · iframe
  iapply h
  rw [each_cons (zI c)]
  iframe
  iexact HC

/-- The barrier: every other device has given its leave. -/
theorem step_barrier {α : Type} {Q : α → sProp 𝕄} {k : PUnit → Prog (TpuEff nD τ sig (Elt F) Λ₀ .tc) α} {n : ℤ} {i : ℕ}
    (hn : n = ((7 : ℕ) : ℤ)) (hs : ∀ a ∈ ss, a < 8)
    (h : St m K c [] ss xs xf xd ws wf wd bw [1, 2, 3, 4, 5, 6, 7] yt ys yb sf rv ot on (0 :: zs) ⊢ runs c (k ⟨⟩) Q) :
    St m K c [] ss xs xf xd ws wf wd (i :: bw) [] yt ys yb sf rv ot on zs ⊢ runs c (.op (.semWait barS n) k) Q := by
  subst hn
  unfold St at h ⊢
  rw [each_cons (barI c), barI_eq]
  iintro ⟨#HC, ⟨%W, Ho⟩, Hsg, Hxs, Hxf, Hxd, Hws, Hwf, Hwd, ⟨⟨Ha, Hc⟩, Hbw⟩, -, Hyt, Hys, Hyb, Hss, Hsf, Hrv, Hot, Hon, Hzs⟩
  iapply (Rounds.wp_wait_rest_token 𝒱₀ EX (plan m) (c : Thread nD τ) none (κ := K (c, kx 0))
      (wpE_semWait_eq 𝒱₀ (c : Thread nD τ) none Set.univ) (Set.mem_univ _) () (O := owe c ss []) (W := W) (R := 0) (m := 0) (T := ∅)
      (by rw [Nat.zero_add, expect_bar])) $$ [Hc Ho Ha]
  · isplitr; · iapply (ctx_inv m K c (kx 0)); iexact HC
    isplitl [Hc]; · iexact Hc
    isplitl [Ho]; · iexact Ho
    isplitr; · iapply (mayWait_bar c hs); iapply (ctx_lev m K); iexact HC
    iexact Ha
  iintro ⟨Ho, Ha, -, Hp⟩
  imod (Rounds.cell_close EX (plan m) (Set.mem_univ (K (c, kx 0))) (fun h => h) (R := 0 + 1) (duties_later m (barC c))) $$ [Ha] with Hz
  · isplitr; · iapply (ctx_inv m K c (kx 0)); iexact HC
    iexact Ha
  ihave Hp := (Entails.of_eq (rest_bar m c)) $$ Hp
  iapply h
  rw [each_cons (zI c), show zI (F := F) c 0 = semVal (barC c) 0 from rfl]
  iframe
  isplitr; · iexact HC
  iexists _; iexact Ho

/-! ## Sends -/

/-- The send of block `g` to the device `g` places on. -/
theorem step_send {α : Type} {Q : α → sProp 𝕄} {k : PUnit → Prog (TpuEff nD τ sig (Elt F) Λ₀ .tc) α} {n : Dev nD} {off : Fin 2 → ℕ} {off' : Fin 3 → ℕ} {h₁ h₂}
    {smS smR : DmaSem sig} {hsc : (oS off h₁ : Memref sig (Dev.tc n : Thread nD τ).2.kind .vmem S512x256 .bf16).view.ref.isScScratch = false} {hsrc hdst hsem}
    (hd : n = fwd c g) (hS : smS = tsem (19 + g)) (hR : smR = tsem (27 + g)) (hg : 1 ≤ g ∧ g < 8) (ho : off = ![512 * c.val, 0]) (ho' : off' = ![g, 0, 0])
    (h : St m K c [] ss xs xf xd ws wf wd bw lf yt ys yb (sf ++ [g]) rv ot on zs ⊢ runs c (k ⟨⟩) Q) :
    St m K c [] (g :: ss) xs xf xd ws wf wd bw (g :: lf) yt (g :: ys) yb sf rv ot on zs
      ⊢ runs c (.op (.enqueueDma (yS off' h₂) (.remote (Dev.tc n : Thread nD τ) (oS off h₁) (.dma smS) hsc) (.dma smR) hsrc hdst hsem) k) Q := by
  subst hd; subst hS; subst hR
  obtain ⟨huS, hnS⟩ := used_tr (n := 19 + g) (by omega) (by omega)
  obtain ⟨huR, hnR⟩ := used_tr (n := 27 + g) (by omega) (by omega)
  unfold St at h ⊢
  rw [each_cons (sI c), sI_eq, each_cons (leave c), leave_eq, each_cons (yPay m c)]
  iintro ⟨#HC, ⟨%W, Ho⟩, Hsg, Hxs, Hxf, Hxd, Hws, Hwf, Hwd, Hbw, ⟨⟨%f, Hl⟩, Hlf⟩, Hyt, ⟨Hy, Hys⟩, Hyb, ⟨⟨HtS, Ha, HtR⟩, Hss⟩, Hsf, Hr⟩
  iapply (Rounds.wp_send_pointsTo 𝒱₀ EX (plan m) (c : Thread nD τ) none (c' := (fwd c g : Thread nD τ)) (src := yS off' h₂) (dst := oS off h₁)
      (sS := .dma (tsem (19 + g))) (sem := .dma (tsem (27 + g))) (hsc := hsc) (hsrc := hsrc) (hdst := hdst) (hsem := hsem) (q := fullShare) (fs := YC m c) (fd := f)
      (κ₁ := K (c, kx (19 + g))) (κ₂ := K (fwd c g, kx (27 + g))) (r₁ := 0) (r₂ := 0) (d₁ := 0) (d₂ := 0)
      (by rw [duties_tr m c _ huS]; exact Finset.mem_singleton_self _) (by rw [duties_tr m (fwd c g) _ huR]; exact Finset.mem_singleton_self _)
      () () NB rfl ((amount_tr m c _ _).trans (trAmt_b (by omega)))
      ((amount_tr m (fwd c g) _ _).trans (by rw [show (27 + g) % 35 = (19 + (8 + g)) % 35 by omega]; exact trAmt_b (by omega))) (owe c ss []) rfl (W := W)
      (by rw [payload_tr, trPay_y m c hg.2]; unfold yPay; rw [set_y ho'])
      (by rw [payload_tr, trPay_o m (fwd c g) hg.2]; exact land_o m c hg.2 ho ho' f)) $$ [Hl Hy Ho HtS HtR]
  · isplitr; · iapply (ctx_inv_tr m K c hnS); iexact HC
    isplitr; · iapply (ctx_inv_tr m K (fwd c g) hnR); iexact HC
    isplitl [Hy]
    · iapply (Entails.of_eq (show yPay m c g = ((yS off' h₂).view.loc (c : Thread nD τ) ↦[(yS off' h₂).view.set]{fullShare} YC m c : sProp 𝕄) from by
        rw [set_y ho']; rfl)); iexact Hy
    isplitl [Hl]; · rw [set_o ho]; iexact Hl
    isplitl [Ho]; · iexact Ho
    isplitl [HtS]; · iexact HtS
    isplitr; · iapply (ctx_rch_tr m K c hnS); iexact HC
    isplitl [HtR]; · iexact HtR
    iapply (ctx_rch_tr m K (fwd c g) hnR); iexact HC
  iintro ⟨Hc, Ho⟩
  ihave Hsf := (each_snoc (sF c) g sf) $$ [Hsf Ha Hc]
  · unfold sF; iframe
  iapply h
  iframe
  isplitr; · iexact HC
  iexists _; iexact Ho

/-! ## Loads and stores -/

/-- Loading `x`, once both halves have landed. -/
theorem step_loadx {α : Type} {Q : α → sProp 𝕄} {k : Vec F S512x4096 .f32 → Prog (TpuEff nD τ sig (Elt F) Λ₀ .tc) α} {off : Fin 2 → ℕ} {hin hl}
    (ho : off = ![0, 0])
    (h : St m K c sg ss xs xf 2 ws wf wd bw lf yt ys yb sf rv ot on zs ⊢ runs c (k (XC m c)) Q) :
    St m K c sg ss xs xf 2 ws wf wd bw lf yt ys yb sf rv ot on zs
      ⊢ runs c (.op (.load xM (Rect.unit (s := S512x4096) off S512x4096.size hin).toLoadRect hl) k) Q := by
  have hx : below xkey 2 = Finset.univ := below_univ _ fun i => by
    have := (lt2 (n0 := 512) (n1 := 4096) i).1; unfold xkey; omega
  unfold St at h ⊢
  iintro ⟨#HC, Ho, Hsg, Hxs, Hxf, Hxd, Hr⟩
  iapply (wp_load 𝒱₀ (c : Thread nD τ) none Set.univ (m := xM) (by rw [hx]; exact Finset.subset_univ _)) $$ Hxd
  iintro Hxd
  rw [load_x ho]
  iapply h
  iframe
  iexact HC

/-- Loading a slot of the `w` buffer, once its four pieces have landed. -/
theorem step_loadw {α : Type} {Q : α → sProp 𝕄} {k : Vec F S1x4096x512 .f32 → Prog (TpuEff nD τ sig (Elt F) Λ₀ .tc) α} {off : Fin 3 → ℕ} {hin hl} (q : Fin 4)
    (ho : off = ![q.val, 0, 0]) (hq : 4 * q.val + 4 ≤ wd)
    (h : St m K c sg ss xs xf xd ws wf wd bw lf yt ys yb sf rv ot on zs ⊢ runs c (k (wslot m c q)) Q) :
    St m K c sg ss xs xf xd ws wf wd bw lf yt ys yb sf rv ot on zs
      ⊢ runs c (.op (.load wM (Rect.unit (s := S4x4096x512) off S1x4096x512.size hin).toLoadRect hl) k) Q := by
  unfold St at h ⊢
  iintro ⟨#HC, Ho, Hsg, Hxs, Hxf, Hxd, Hws, Hwf, Hwd, Hr⟩
  iapply (wp_load_rect 𝒱₀ (c : Thread nD τ) none Set.univ (m := wM) (r := Rect.unit (s := S4x4096x512) off S1x4096x512.size hin) (by rw [View.set_slice_whole]; exact slot_sub hq ho)) $$ Hwd
  iintro Hwd
  rw [show View.read (Elt F) (wM.access (Rect.unit (s := S4x4096x512) off S1x4096x512.size hin)) (WC m c) = wslot m c q from load_w m c q ho]
  iapply h
  iframe
  iexact HC

/-- Filling slot `g` of the product buffer: its former contents are loaded and dropped, then block `g` is stored. -/
theorem step_y {α : Type} {Q : α → sProp 𝕄} {k : Vec F S1x512x256 .bf16 → PUnit → Prog (TpuEff nD τ sig (Elt F) Λ₀ .tc) α} {off : Fin 3 → ℕ} {hin hl hin' hst hmk}
    {w : FVec F S1x512x256 .bf16} (ho : off = ![g, 0, 0]) (hw : IsCut m c g w)
    (h : ∀ v, St m K c sg ss xs xf xd ws wf wd bw lf yt (ys ++ [g]) yb sf rv ot on zs ⊢ runs c (k v ⟨⟩) Q) :
    St m K c sg ss xs xf xd ws wf wd bw lf (g :: yt) ys yb sf rv ot on zs
      ⊢ runs c (.op (.load yM (Rect.unit (s := S8x512x256) off S1x512x256.size hin).toLoadRect hl) fun v =>
          .op (.store yM (Rect.unit (s := S8x512x256) off S1x512x256.size hin') w Finset.univ hst hmk) (k v)) Q := by
  have hset : (yM.access (Rect.unit (s := S8x512x256) off S1x512x256.size hin) : View sig .tc _ _ _).set = at_ ykey g :=
    (View.set_slice_whole _ _).trans (rect_y ho)
  unfold St at h ⊢
  rw [each_cons (yI c), yI_eq]
  iintro ⟨#HC, Ho, Hsg, Hxs, Hxf, Hxd, Hws, Hwf, Hwd, Hbw, Hlf, ⟨⟨%f, Hy⟩, Hyt⟩, Hys, Hr⟩
  iapply (wp_load_rect 𝒱₀ (c : Thread nD τ) none Set.univ (m := yM) (r := Rect.unit (s := S8x512x256) off S1x512x256.size hin) hset.subset) $$ Hy
  iintro Hy
  iapply (wp_store 𝒱₀ (c : Thread nD τ) none Set.univ (m := yM) (r := Rect.unit (s := S8x512x256) off S1x512x256.size hin') (Mk := Finset.univ)
    (by rw [View.setOn_univ]; exact hset.subset)) $$ Hy
  iintro Hy
  ihave Hy := (Entails.of_eq (pointsTo_congr (store_y m c ho (h := hin') f hw))) $$ Hy
  ihave Hys := (each_snoc (yPay m c) g ys) $$ [Hys Hy]
  · unfold yPay; iframe
  iapply (h _)
  iframe
  iexact HC

/-- Filling the device's own row block of its result. -/
theorem step_o {α : Type} {Q : α → sProp 𝕄} {k : Vec F S512x256 .bf16 → PUnit → Prog (TpuEff nD τ sig (Elt F) Λ₀ .tc) α} {off : Fin 2 → ℕ} {hin hl hin' hst hmk} {i : ℕ}
    (ho : off = ![512 * c.val, 0])
    (h : ∀ v, St m K c sg ss xs xf xd ws wf wd bw lf yt ys yb sf rv ot 1 zs ⊢ runs c (k v ⟨⟩) Q) :
    St m K c sg ss xs xf xd ws wf wd bw lf yt ys yb sf rv (i :: ot) 0 zs
      ⊢ runs c (.op (.load oM (Rect.unit (s := S4096x256) off S512x256.size hin).toLoadRect hl) fun v =>
          .op (.store oM (Rect.unit (s := S4096x256) off S512x256.size hin') (k0_pay12 (XC m c) (wslot m c 3)) Finset.univ hst hmk) (k v)) Q := by
  have hset : (oM.access (Rect.unit (s := S4096x256) off S512x256.size hin) : View sig .tc _ _ _).set = at_ (orel c) 0 :=
    ((View.set_slice_whole _ _).trans (rect_o ho)).trans (okey_orel c (dev_lt c) (by omega))
  have h1 : below (orel c) 1 = at_ (orel c) 0 := by rw [below_succ, below_zero, Finset.empty_union]
  unfold St at h ⊢
  rw [each_cons (oI c), oI_eq]
  iintro ⟨#HC, Ho, Hsg, Hxs, Hxf, Hxd, Hws, Hwf, Hwd, Hbw, Hlf, Hyt, Hys, Hyb, Hss, Hsf, Hrv, ⟨⟨%f, Hy⟩, Hot⟩, -, Hzs⟩
  iapply (wp_load_rect 𝒱₀ (c : Thread nD τ) none Set.univ (m := oM) (r := Rect.unit (s := S4096x256) off S512x256.size hin) hset.subset) $$ Hy
  iintro Hy
  iapply (wp_store 𝒱₀ (c : Thread nD τ) none Set.univ (m := oM) (r := Rect.unit (s := S4096x256) off S512x256.size hin') (Mk := Finset.univ)
    (by rw [View.setOn_univ]; exact hset.subset)) $$ Hy
  iintro Hy
  ihave Hy := (Entails.of_eq (pointsTo_congr (store_o m c ho (h := hin') f))) $$ Hy
  ihave Hy := (Entails.of_eq (congrArg (fun S => ((c : Thread nD τ).loc cc0_stg0_0 ↦[S]{fullShare} OC m c : sProp 𝕄)) h1.symm)) $$ Hy
  iapply (h _)
  iframe
  iexact HC

end Cert.KernelIdealProof

end
-- ==== Proof.IRun.lean ====
module

public import proofs.«01_k».proof.Proof.IStep

/-!
The kernel's printed parts run one after the other, each from the state the one before it leaves.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ)
variable {c : Dev nD}

/-- Both halves of `x` start, and the first three barrier signals go out. -/
theorem part1 {α : Type} {Q : α → sProp 𝕄} {kk : _ → Prog (TpuEff nD τ sig (Elt F) Λ₀ .tc) α}
    (h : ∀ u v w : BitVec 32, St m K c [4, 5, 6, 7] [1, 2, 3, 4, 5, 6, 7] [] [0, 1] 0 [0, 1, 2, 3, 4, 5, 6, 7, 8, 9, 10, 11, 12, 13, 14, 15] [] 0 [0] [] [1, 2, 3, 4, 5, 6, 7] [] [] [] [1, 2, 3, 4, 5, 6, 7] [0] 0 [19, 27]
      ⊢ runs c (kk ⟨c, u, SemArray.scalar (sig.barrier 0 rfl), v, w⟩) Q) :
    St m K c [1, 2, 3, 4, 5, 6, 7] [1, 2, 3, 4, 5, 6, 7] [0, 1] [] 0 [0, 1, 2, 3, 4, 5, 6, 7, 8, 9, 10, 11, 12, 13, 14, 15] [] 0 [0] [] [1, 2, 3, 4, 5, 6, 7] [] [] [] [1, 2, 3, 4, 5, 6, 7] [0] 0 [19, 27]
      ⊢ runs c (k0_part1 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 >>= kk) Q := by
  rw [k0_part1_eq_skeleton]; unfold k0_part1_skel
  simp only [semSignalWord, semWaitWord, Prog.lift, Prog.bind_op, Prog.bind_ret, Prog.pure_eq_ret, wp_deviceId]
  refine step_x m K (p := 0) rfl rfl rfl (by decide) ?_
  refine step_x m K (p := 1) rfl rfl rfl (by decide) ?_
  refine step_signal m K (g := 1) (Fin.ext (k0_dev1_eq c)) rfl (by decide) ?_
  refine step_signal m K (g := 2) (Fin.ext (k0_dev2_eq c)) rfl (by decide) ?_
  refine step_signal m K (g := 3) (Fin.ext (k0_dev3_eq c)) rfl (by decide) ?_
  exact h _ _ _

/-- The other four signals, and the first piece of `w`. -/
theorem part2 {α : Type} {Q : α → sProp 𝕄} {kk : _ → Prog (TpuEff nD τ sig (Elt F) Λ₀ .tc) α} (v2 v24 c8_i32_21 : BitVec 32)
    (h : ∀ u : BitVec 32, St m K c [] [1, 2, 3, 4, 5, 6, 7] [] [0, 1] 0 [1, 2, 3, 4, 5, 6, 7, 8, 9, 10, 11, 12, 13, 14, 15] [0] 0 [0] [] [1, 2, 3, 4, 5, 6, 7] [] [] [] [1, 2, 3, 4, 5, 6, 7] [0] 0 [19, 27]
      ⊢ runs c (kk u) Q) :
    St m K c [4, 5, 6, 7] [1, 2, 3, 4, 5, 6, 7] [] [0, 1] 0 [0, 1, 2, 3, 4, 5, 6, 7, 8, 9, 10, 11, 12, 13, 14, 15] [] 0 [0] [] [1, 2, 3, 4, 5, 6, 7] [] [] [] [1, 2, 3, 4, 5, 6, 7] [0] 0 [19, 27]
      ⊢ runs c (k0_part2 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 (SemArray.scalar (sig.barrier 0 rfl)) v24 c8_i32_21 >>= kk) Q := by
  rw [k0_part2_eq_skeleton]; unfold k0_part2_skel
  simp only [semSignalWord, semWaitWord, Prog.lift, Prog.bind_op, Prog.bind_ret, Prog.pure_eq_ret, wp_deviceId]
  refine step_signal m K (g := 4) (Fin.ext (k0_dev4_eq c)) rfl (by decide) ?_
  refine step_signal m K (g := 5) (Fin.ext (k0_dev5_eq c)) rfl (by decide) ?_
  refine step_signal m K (g := 6) (Fin.ext (k0_dev6_eq c)) rfl (by decide) ?_
  refine step_signal m K (g := 7) (Fin.ext (k0_dev7_eq c)) rfl (by decide) ?_
  refine step_w m K (s := 0) (q := 0) (p := 0) (r := 1) rfl rfl (by decide) (by decide) (by decide) (by decide) rfl (k0_off1_eq c 1) ?_
  exact h _

/-- More pieces of `w` start. -/
theorem part3 {α : Type} {Q : α → sProp 𝕄} {kk : _ → Prog (TpuEff nD τ sig (Elt F) Λ₀ .tc) α} (v2 v49 : BitVec 32)
    (h : St m K c [] [1, 2, 3, 4, 5, 6, 7] [] [0, 1] 0 [4, 5, 6, 7, 8, 9, 10, 11, 12, 13, 14, 15] [0, 1, 2, 3] 0 [0] [] [1, 2, 3, 4, 5, 6, 7] [] [] [] [1, 2, 3, 4, 5, 6, 7] [0] 0 [19, 27]
      ⊢ runs c (kk ⟨⟩) Q) :
    St m K c [] [1, 2, 3, 4, 5, 6, 7] [] [0, 1] 0 [1, 2, 3, 4, 5, 6, 7, 8, 9, 10, 11, 12, 13, 14, 15] [0] 0 [0] [] [1, 2, 3, 4, 5, 6, 7] [] [] [] [1, 2, 3, 4, 5, 6, 7] [0] 0 [19, 27]
      ⊢ runs c (k0_part3 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 v49 >>= kk) Q := by
  rw [k0_part3_eq_skeleton]; unfold k0_part3_skel
  simp only [semSignalWord, semWaitWord, Prog.lift, Prog.bind_op, Prog.bind_ret, Prog.pure_eq_ret, wp_deviceId]
  refine step_w m K (s := 0) (q := 0) (p := 1) (r := 1) rfl rfl (by decide) (by decide) (by decide) (by decide) rfl (k0_off2_eq c 1) ?_
  refine step_w m K (s := 0) (q := 1) (p := 0) (r := 2) rfl rfl (by decide) (by decide) (by decide) (by decide) rfl (k0_off1_eq c 2) ?_
  refine step_w m K (s := 0) (q := 1) (p := 1) (r := 2) rfl rfl (by decide) (by decide) (by decide) (by decide) rfl (k0_off2_eq c 2) ?_
  exact h

/-- More pieces of `w` start. -/
theorem part4 {α : Type} {Q : α → sProp 𝕄} {kk : _ → Prog (TpuEff nD τ sig (Elt F) Λ₀ .tc) α} (v2 : BitVec 32)
    (h : St m K c [] [1, 2, 3, 4, 5, 6, 7] [] [0, 1] 0 [7, 8, 9, 10, 11, 12, 13, 14, 15] [0, 1, 2, 3, 4, 5, 6] 0 [0] [] [1, 2, 3, 4, 5, 6, 7] [] [] [] [1, 2, 3, 4, 5, 6, 7] [0] 0 [19, 27]
      ⊢ runs c (kk ⟨⟩) Q) :
    St m K c [] [1, 2, 3, 4, 5, 6, 7] [] [0, 1] 0 [4, 5, 6, 7, 8, 9, 10, 11, 12, 13, 14, 15] [0, 1, 2, 3] 0 [0] [] [1, 2, 3, 4, 5, 6, 7] [] [] [] [1, 2, 3, 4, 5, 6, 7] [0] 0 [19, 27]
      ⊢ runs c (k0_part4 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part4_eq_skeleton]; unfold k0_part4_skel
  simp only [semSignalWord, semWaitWord, Prog.lift, Prog.bind_op, Prog.bind_ret, Prog.pure_eq_ret, wp_deviceId]
  refine step_w m K (s := 1) (q := 0) (p := 0) (r := 3) rfl rfl (by decide) (by decide) (by decide) (by decide) rfl (k0_off1_eq c 3) ?_
  refine step_w m K (s := 1) (q := 0) (p := 1) (r := 3) rfl rfl (by decide) (by decide) (by decide) (by decide) rfl (k0_off2_eq c 3) ?_
  refine step_w m K (s := 1) (q := 1) (p := 0) (r := 4) rfl rfl (by decide) (by decide) (by decide) (by decide) rfl (k0_off1_eq c 4) ?_
  exact h

/-- More pieces of `w` start. -/
theorem part5 {α : Type} {Q : α → sProp 𝕄} {kk : _ → Prog (TpuEff nD τ sig (Elt F) Λ₀ .tc) α} (v2 : BitVec 32)
    (h : St m K c [] [1, 2, 3, 4, 5, 6, 7] [] [0, 1] 0 [10, 11, 12, 13, 14, 15] [0, 1, 2, 3, 4, 5, 6, 7, 8, 9] 0 [0] [] [1, 2, 3, 4, 5, 6, 7] [] [] [] [1, 2, 3, 4, 5, 6, 7] [0] 0 [19, 27]
      ⊢ runs c (kk ⟨⟩) Q) :
    St m K c [] [1, 2, 3, 4, 5, 6, 7] [] [0, 1] 0 [7, 8, 9, 10, 11, 12, 13, 14, 15] [0, 1, 2, 3, 4, 5, 6] 0 [0] [] [1, 2, 3, 4, 5, 6, 7] [] [] [] [1, 2, 3, 4, 5, 6, 7] [0] 0 [19, 27]
      ⊢ runs c (k0_part5 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part5_eq_skeleton]; unfold k0_part5_skel
  simp only [semSignalWord, semWaitWord, Prog.lift, Prog.bind_op, Prog.bind_ret, Prog.pure_eq_ret, wp_deviceId]
  refine step_w m K (s := 1) (q := 1) (p := 1) (r := 4) rfl rfl (by decide) (by decide) (by decide) (by decide) rfl (k0_off2_eq c 4) ?_
  refine step_w m K (s := 2) (q := 0) (p := 0) (r := 5) rfl rfl (by decide) (by decide) (by decide) (by decide) rfl (k0_off1_eq c 5) ?_
  refine step_w m K (s := 2) (q := 0) (p := 1) (r := 5) rfl rfl (by decide) (by decide) (by decide) (by decide) rfl (k0_off2_eq c 5) ?_
  exact h

/-- More pieces of `w` start. -/
theorem part6 {α : Type} {Q : α → sProp 𝕄} {kk : _ → Prog (TpuEff nD τ sig (Elt F) Λ₀ .tc) α} (v2 : BitVec 32)
    (h : St m K c [] [1, 2, 3, 4, 5, 6, 7] [] [0, 1] 0 [13, 14, 15] [0, 1, 2, 3, 4, 5, 6, 7, 8, 9, 10, 11, 12] 0 [0] [] [1, 2, 3, 4, 5, 6, 7] [] [] [] [1, 2, 3, 4, 5, 6, 7] [0] 0 [19, 27]
      ⊢ runs c (kk ⟨⟩) Q) :
    St m K c [] [1, 2, 3, 4, 5, 6, 7] [] [0, 1] 0 [10, 11, 12, 13, 14, 15] [0, 1, 2, 3, 4, 5, 6, 7, 8, 9] 0 [0] [] [1, 2, 3, 4, 5, 6, 7] [] [] [] [1, 2, 3, 4, 5, 6, 7] [0] 0 [19, 27]
      ⊢ runs c (k0_part6 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part6_eq_skeleton]; unfold k0_part6_skel
  simp only [semSignalWord, semWaitWord, Prog.lift, Prog.bind_op, Prog.bind_ret, Prog.pure_eq_ret, wp_deviceId]
  refine step_w m K (s := 2) (q := 1) (p := 0) (r := 6) rfl rfl (by decide) (by decide) (by decide) (by decide) rfl (k0_off1_eq c 6) ?_
  refine step_w m K (s := 2) (q := 1) (p := 1) (r := 6) rfl rfl (by decide) (by decide) (by decide) (by decide) rfl (k0_off2_eq c 6) ?_
  refine step_w m K (s := 3) (q := 0) (p := 0) (r := 7) rfl rfl (by decide) (by decide) (by decide) (by decide) rfl (k0_off1_eq c 7) ?_
  exact h

/-- The last pieces of `w` start; the first half of `x` lands. -/
theorem part7 {α : Type} {Q : α → sProp 𝕄} {kk : _ → Prog (TpuEff nD τ sig (Elt F) Λ₀ .tc) α} (v2 : BitVec 32)
    (h : St m K c [] [1, 2, 3, 4, 5, 6, 7] [] [1] 1 [] [0, 1, 2, 3, 4, 5, 6, 7, 8, 9, 10, 11, 12, 13, 14, 15] 0 [0] [] [1, 2, 3, 4, 5, 6, 7] [] [] [] [1, 2, 3, 4, 5, 6, 7] [0] 0 [1, 19, 27]
      ⊢ runs c (kk ⟨⟩) Q) :
    St m K c [] [1, 2, 3, 4, 5, 6, 7] [] [0, 1] 0 [13, 14, 15] [0, 1, 2, 3, 4, 5, 6, 7, 8, 9, 10, 11, 12] 0 [0] [] [1, 2, 3, 4, 5, 6, 7] [] [] [] [1, 2, 3, 4, 5, 6, 7] [0] 0 [19, 27]
      ⊢ runs c (k0_part7 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part7_eq_skeleton]; unfold k0_part7_skel
  simp only [semSignalWord, semWaitWord, Prog.lift, Prog.bind_op, Prog.bind_ret, Prog.pure_eq_ret, wp_deviceId]
  refine step_w m K (s := 3) (q := 0) (p := 1) (r := 7) rfl rfl (by decide) (by decide) (by decide) (by decide) rfl (k0_off2_eq c 7) ?_
  refine step_w m K (s := 3) (q := 1) (p := 0) (r := 0) rfl rfl (by decide) (by decide) (by decide) (by decide) rfl (k0_off1_eq c 0) ?_
  refine step_w m K (s := 3) (q := 1) (p := 1) (r := 0) rfl rfl (by decide) (by decide) (by decide) (by decide) rfl (k0_off2_eq c 0) ?_
  refine step_xwait m K (p := 0) rfl (by decide) rfl (by decide) ?_
  exact h

/-- `x` is in; the first pieces of `w` land. -/
theorem part8 {α : Type} {Q : α → sProp 𝕄} {kk : _ → Prog (TpuEff nD τ sig (Elt F) Λ₀ .tc) α} (v2 : BitVec 32)
    (h : ∀ u : BitVec 32, St m K c [] [1, 2, 3, 4, 5, 6, 7] [] [] 2 [] [3, 4, 5, 6, 7, 8, 9, 10, 11, 12, 13, 14, 15] 3 [0] [] [1, 2, 3, 4, 5, 6, 7] [] [] [] [1, 2, 3, 4, 5, 6, 7] [0] 0 [5, 4, 3, 2, 1, 19, 27]
      ⊢ runs c (kk u) Q) :
    St m K c [] [1, 2, 3, 4, 5, 6, 7] [] [1] 1 [] [0, 1, 2, 3, 4, 5, 6, 7, 8, 9, 10, 11, 12, 13, 14, 15] 0 [0] [] [1, 2, 3, 4, 5, 6, 7] [] [] [] [1, 2, 3, 4, 5, 6, 7] [0] 0 [1, 19, 27]
      ⊢ runs c (k0_part8 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part8_eq_skeleton]; unfold k0_part8_skel
  simp only [semSignalWord, semWaitWord, Prog.lift, Prog.bind_op, Prog.bind_ret, Prog.pure_eq_ret, wp_deviceId]
  refine step_xwait m K (p := 1) rfl (by decide) rfl (by decide) ?_
  refine step_wwait m K (j := 0) rfl (by decide) rfl (by decide) ?_
  refine step_wwait m K (j := 1) rfl (by decide) rfl (by decide) ?_
  refine step_wwait m K (j := 2) rfl (by decide) rfl (by decide) ?_
  exact h _

/-- The first block is made, and the barrier passed. -/
theorem part9 {α : Type} {Q : α → sProp 𝕄} {kk : _ → Prog (TpuEff nD τ sig (Elt F) Λ₀ .tc) α} (v2 v200 : BitVec 32)
    (h : St m K c [] [1, 2, 3, 4, 5, 6, 7] [] [] 2 [] [4, 5, 6, 7, 8, 9, 10, 11, 12, 13, 14, 15] 4 [] [1, 2, 3, 4, 5, 6, 7] [2, 3, 4, 5, 6, 7] [1] [] [] [1, 2, 3, 4, 5, 6, 7] [0] 0 [0, 6, 5, 4, 3, 2, 1, 19, 27]
      ⊢ runs c (kk (k0_pay1 (XC m c) (wslot m c 0))) Q) :
    St m K c [] [1, 2, 3, 4, 5, 6, 7] [] [] 2 [] [3, 4, 5, 6, 7, 8, 9, 10, 11, 12, 13, 14, 15] 3 [0] [] [1, 2, 3, 4, 5, 6, 7] [] [] [] [1, 2, 3, 4, 5, 6, 7] [0] 0 [5, 4, 3, 2, 1, 19, 27]
      ⊢ runs c (k0_part9 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 (SemArray.scalar (sig.barrier 0 rfl)) v200 >>= kk) Q := by
  rw [k0_part9_eq_skeleton]; unfold k0_part9_skel
  simp only [semSignalWord, semWaitWord, Prog.lift, Prog.bind_op, Prog.bind_ret, Prog.pure_eq_ret, wp_deviceId]
  refine step_wwait m K (j := 3) rfl (by decide) rfl (by decide) ?_
  refine step_loadx m K rfl ?_
  refine step_loadw m K 0 rfl (by decide) ?_
  refine step_y m K rfl (cut1 m c) fun _ => ?_
  refine step_barrier m K rfl (by decide) ?_
  exact h

/-- The first two sends, and the second block. -/
theorem part10 {α : Type} {Q : α → sProp 𝕄} {kk : _ → Prog (TpuEff nD τ sig (Elt F) Λ₀ .tc) α} (v2 : BitVec 32)
    (h : ∀ u v : BitVec 32, St m K c [] [3, 4, 5, 6, 7] [] [] 2 [] [5, 6, 7, 8, 9, 10, 11, 12, 13, 14, 15] 5 [] [3, 4, 5, 6, 7] [3, 4, 5, 6, 7] [] [] [1, 2] [1, 2, 3, 4, 5, 6, 7] [0] 0 [7, 0, 6, 5, 4, 3, 2, 1, 19, 27]
      ⊢ runs c (kk ⟨u, v⟩) Q) :
    St m K c [] [1, 2, 3, 4, 5, 6, 7] [] [] 2 [] [4, 5, 6, 7, 8, 9, 10, 11, 12, 13, 14, 15] 4 [] [1, 2, 3, 4, 5, 6, 7] [2, 3, 4, 5, 6, 7] [1] [] [] [1, 2, 3, 4, 5, 6, 7] [0] 0 [0, 6, 5, 4, 3, 2, 1, 19, 27]
      ⊢ runs c (k0_part10 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 (k0_pay1 (XC m c) (wslot m c 0)) >>= kk) Q := by
  rw [k0_part10_eq_skeleton]; unfold k0_part10_skel
  simp only [semSignalWord, semWaitWord, Prog.lift, Prog.bind_op, Prog.bind_ret, Prog.pure_eq_ret, wp_deviceId]
  refine step_send m K (g := 1) (Fin.ext (k0_dev8_eq c)) rfl rfl (by decide) (k0_off3_eq c) rfl ?_
  refine step_y m K rfl (cut2 m c) fun _ => ?_
  refine step_send m K (g := 2) (Fin.ext (k0_dev9_eq c)) rfl rfl (by decide) (k0_off3_eq c) rfl ?_
  refine step_wwait m K (j := 4) rfl (by decide) rfl (by decide) ?_
  exact h _ _

/-- The second slot of `w` is in. -/
theorem part11 {α : Type} {Q : α → sProp 𝕄} {kk : _ → Prog (TpuEff nD τ sig (Elt F) Λ₀ .tc) α} (v2 v255 c8_i32_288 : BitVec 32)
    (h : St m K c [] [3, 4, 5, 6, 7] [] [] 2 [] [8, 9, 10, 11, 12, 13, 14, 15] 8 [] [3, 4, 5, 6, 7] [3, 4, 5, 6, 7] [] [] [1, 2] [1, 2, 3, 4, 5, 6, 7] [0] 0 [10, 9, 8, 7, 0, 6, 5, 4, 3, 2, 1, 19, 27]
      ⊢ runs c (kk (XC m c)) Q) :
    St m K c [] [3, 4, 5, 6, 7] [] [] 2 [] [5, 6, 7, 8, 9, 10, 11, 12, 13, 14, 15] 5 [] [3, 4, 5, 6, 7] [3, 4, 5, 6, 7] [] [] [1, 2] [1, 2, 3, 4, 5, 6, 7] [0] 0 [7, 0, 6, 5, 4, 3, 2, 1, 19, 27]
      ⊢ runs c (k0_part11 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 v255 c8_i32_288 >>= kk) Q := by
  rw [k0_part11_eq_skeleton]; unfold k0_part11_skel
  simp only [semSignalWord, semWaitWord, Prog.lift, Prog.bind_op, Prog.bind_ret, Prog.pure_eq_ret, wp_deviceId]
  refine step_wwait m K (j := 5) rfl (by decide) rfl (by decide) ?_
  refine step_wwait m K (j := 6) rfl (by decide) rfl (by decide) ?_
  refine step_wwait m K (j := 7) rfl (by decide) rfl (by decide) ?_
  refine step_loadx m K rfl ?_
  exact h

/-- The third and fourth blocks; the third send. -/
theorem part12 {α : Type} {Q : α → sProp 𝕄} {kk : _ → Prog (TpuEff nD τ sig (Elt F) Λ₀ .tc) α} (v2 : BitVec 32)
    (h : ∀ u v : BitVec 32, St m K c [] [4, 5, 6, 7] [] [] 2 [] [8, 9, 10, 11, 12, 13, 14, 15] 8 [] [4, 5, 6, 7] [5, 6, 7] [4] [] [1, 2, 3] [1, 2, 3, 4, 5, 6, 7] [0] 0 [10, 9, 8, 7, 0, 6, 5, 4, 3, 2, 1, 19, 27]
      ⊢ runs c (kk ⟨u, v⟩) Q) :
    St m K c [] [3, 4, 5, 6, 7] [] [] 2 [] [8, 9, 10, 11, 12, 13, 14, 15] 8 [] [3, 4, 5, 6, 7] [3, 4, 5, 6, 7] [] [] [1, 2] [1, 2, 3, 4, 5, 6, 7] [0] 0 [10, 9, 8, 7, 0, 6, 5, 4, 3, 2, 1, 19, 27]
      ⊢ runs c (k0_part12 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 (XC m c) >>= kk) Q := by
  rw [k0_part12_eq_skeleton]; unfold k0_part12_skel
  simp only [semSignalWord, semWaitWord, Prog.lift, Prog.bind_op, Prog.bind_ret, Prog.pure_eq_ret, wp_deviceId]
  refine step_loadw m K 1 rfl (by decide) ?_
  refine step_y m K rfl (cut3 m c) fun _ => ?_
  refine step_send m K (g := 3) (Fin.ext (k0_dev10_eq c)) rfl rfl (by decide) (k0_off3_eq c) rfl ?_
  refine step_y m K rfl (cut4 m c) fun _ => ?_
  exact h _ _

/-- The fourth send. -/
theorem part13 {α : Type} {Q : α → sProp 𝕄} {kk : _ → Prog (TpuEff nD τ sig (Elt F) Λ₀ .tc) α} (v2 v309 c0_i32_346 : BitVec 32)
    (h : St m K c [] [5, 6, 7] [] [] 2 [] [10, 11, 12, 13, 14, 15] 10 [] [5, 6, 7] [5, 6, 7] [] [] [1, 2, 3, 4] [1, 2, 3, 4, 5, 6, 7] [0] 0 [12, 11, 10, 9, 8, 7, 0, 6, 5, 4, 3, 2, 1, 19, 27]
      ⊢ runs c (kk ⟨⟩) Q) :
    St m K c [] [4, 5, 6, 7] [] [] 2 [] [8, 9, 10, 11, 12, 13, 14, 15] 8 [] [4, 5, 6, 7] [5, 6, 7] [4] [] [1, 2, 3] [1, 2, 3, 4, 5, 6, 7] [0] 0 [10, 9, 8, 7, 0, 6, 5, 4, 3, 2, 1, 19, 27]
      ⊢ runs c (k0_part13 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 v309 c0_i32_346 >>= kk) Q := by
  rw [k0_part13_eq_skeleton]; unfold k0_part13_skel
  simp only [semSignalWord, semWaitWord, Prog.lift, Prog.bind_op, Prog.bind_ret, Prog.pure_eq_ret, wp_deviceId]
  refine step_send m K (g := 4) (Fin.ext (k0_dev11_eq c)) rfl rfl (by decide) (k0_off3_eq c) rfl ?_
  refine step_wwait m K (j := 8) rfl (by decide) rfl (by decide) ?_
  refine step_wwait m K (j := 9) rfl (by decide) rfl (by decide) ?_
  exact h

/-- The third slot of `w` is in; the fifth block. -/
theorem part14 {α : Type} {Q : α → sProp 𝕄} {kk : _ → Prog (TpuEff nD τ sig (Elt F) Λ₀ .tc) α} (v2 : BitVec 32)
    (h : ∀ u v : BitVec 32, St m K c [] [5, 6, 7] [] [] 2 [] [12, 13, 14, 15] 12 [] [5, 6, 7] [6, 7] [5] [] [1, 2, 3, 4] [1, 2, 3, 4, 5, 6, 7] [0] 0 [14, 13, 12, 11, 10, 9, 8, 7, 0, 6, 5, 4, 3, 2, 1, 19, 27]
      ⊢ runs c (kk ⟨k0_pay7 (XC m c) (wslot m c 2), u, v⟩) Q) :
    St m K c [] [5, 6, 7] [] [] 2 [] [10, 11, 12, 13, 14, 15] 10 [] [5, 6, 7] [5, 6, 7] [] [] [1, 2, 3, 4] [1, 2, 3, 4, 5, 6, 7] [0] 0 [12, 11, 10, 9, 8, 7, 0, 6, 5, 4, 3, 2, 1, 19, 27]
      ⊢ runs c (k0_part14 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part14_eq_skeleton]; unfold k0_part14_skel
  simp only [semSignalWord, semWaitWord, Prog.lift, Prog.bind_op, Prog.bind_ret, Prog.pure_eq_ret, wp_deviceId]
  refine step_wwait m K (j := 10) rfl (by decide) rfl (by decide) ?_
  refine step_wwait m K (j := 11) rfl (by decide) rfl (by decide) ?_
  refine step_loadx m K rfl ?_
  refine step_loadw m K 2 rfl (by decide) ?_
  refine step_y m K rfl (cut5 m c) fun _ => ?_
  exact h _ _

/-- The fifth and sixth sends, and the sixth block. -/
theorem part15 {α : Type} {Q : α → sProp 𝕄} {kk : _ → Prog (TpuEff nD τ sig (Elt F) Λ₀ .tc) α} (v2 v362 c1_i32_405 : BitVec 32)
    (h : St m K c [] [7] [] [] 2 [] [12, 13, 14, 15] 12 [] [7] [7] [] [] [1, 2, 3, 4, 5, 6] [1, 2, 3, 4, 5, 6, 7] [0] 0 [14, 13, 12, 11, 10, 9, 8, 7, 0, 6, 5, 4, 3, 2, 1, 19, 27]
      ⊢ runs c (kk ⟨⟩) Q) :
    St m K c [] [5, 6, 7] [] [] 2 [] [12, 13, 14, 15] 12 [] [5, 6, 7] [6, 7] [5] [] [1, 2, 3, 4] [1, 2, 3, 4, 5, 6, 7] [0] 0 [14, 13, 12, 11, 10, 9, 8, 7, 0, 6, 5, 4, 3, 2, 1, 19, 27]
      ⊢ runs c (k0_part15 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 (k0_pay7 (XC m c) (wslot m c 2)) v362 c1_i32_405 >>= kk) Q := by
  rw [k0_part15_eq_skeleton]; unfold k0_part15_skel
  simp only [semSignalWord, semWaitWord, Prog.lift, Prog.bind_op, Prog.bind_ret, Prog.pure_eq_ret, wp_deviceId]
  refine step_send m K (g := 5) (Fin.ext (k0_dev12_eq c)) rfl rfl (by decide) (k0_off3_eq c) rfl ?_
  refine step_y m K rfl (cut6 m c) fun _ => ?_
  refine step_send m K (g := 6) (Fin.ext (k0_dev13_eq c)) rfl rfl (by decide) (k0_off3_eq c) rfl ?_
  exact h

/-- Pieces of the last slot of `w` land. -/
theorem part16 {α : Type} {Q : α → sProp 𝕄} {kk : _ → Prog (TpuEff nD τ sig (Elt F) Λ₀ .tc) α} (v2 : BitVec 32)
    (h : St m K c [] [7] [] [] 2 [] [15] 15 [] [7] [7] [] [] [1, 2, 3, 4, 5, 6] [1, 2, 3, 4, 5, 6, 7] [0] 0 [17, 16, 15, 14, 13, 12, 11, 10, 9, 8, 7, 0, 6, 5, 4, 3, 2, 1, 19, 27]
      ⊢ runs c (kk ⟨⟩) Q) :
    St m K c [] [7] [] [] 2 [] [12, 13, 14, 15] 12 [] [7] [7] [] [] [1, 2, 3, 4, 5, 6] [1, 2, 3, 4, 5, 6, 7] [0] 0 [14, 13, 12, 11, 10, 9, 8, 7, 0, 6, 5, 4, 3, 2, 1, 19, 27]
      ⊢ runs c (k0_part16 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part16_eq_skeleton]; unfold k0_part16_skel
  simp only [semSignalWord, semWaitWord, Prog.lift, Prog.bind_op, Prog.bind_ret, Prog.pure_eq_ret, wp_deviceId]
  refine step_wwait m K (j := 12) rfl (by decide) rfl (by decide) ?_
  refine step_wwait m K (j := 13) rfl (by decide) rfl (by decide) ?_
  refine step_wwait m K (j := 14) rfl (by decide) rfl (by decide) ?_
  exact h

/-- The last send, and the device's own block. -/
theorem part17 {α : Type} {Q : α → sProp 𝕄} {kk : _ → Prog (TpuEff nD τ sig (Elt F) Λ₀ .tc) α} (v2 : BitVec 32)
    (h : ∀ u v : BitVec 32, St m K c [] [] [] [] 2 [] [] 16 [] [] [] [] [] [1, 2, 3, 4, 5, 6, 7] [1, 2, 3, 4, 5, 6, 7] [] 1 [18, 17, 16, 15, 14, 13, 12, 11, 10, 9, 8, 7, 0, 6, 5, 4, 3, 2, 1, 19, 27]
      ⊢ runs c (kk ⟨u, v⟩) Q) :
    St m K c [] [7] [] [] 2 [] [15] 15 [] [7] [7] [] [] [1, 2, 3, 4, 5, 6] [1, 2, 3, 4, 5, 6, 7] [0] 0 [17, 16, 15, 14, 13, 12, 11, 10, 9, 8, 7, 0, 6, 5, 4, 3, 2, 1, 19, 27]
      ⊢ runs c (k0_part17 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part17_eq_skeleton]; unfold k0_part17_skel
  simp only [semSignalWord, semWaitWord, Prog.lift, Prog.bind_op, Prog.bind_ret, Prog.pure_eq_ret, wp_deviceId]
  refine step_wwait m K (j := 15) rfl (by decide) rfl (by decide) ?_
  refine step_loadx m K rfl ?_
  refine step_loadw m K 3 rfl (by decide) ?_
  refine step_y m K rfl (cut7 m c) fun _ => ?_
  refine step_send m K (g := 7) (Fin.ext (k0_dev14_eq c)) rfl rfl (by decide) (k0_off3_eq c) rfl ?_
  refine step_o m K (k0_off4_eq c) fun _ => ?_
  exact h _ _

/-- The first two receipts. -/
theorem part18 {α : Type} {Q : α → sProp 𝕄} {kk : _ → Prog (TpuEff nD τ sig (Elt F) Λ₀ .tc) α} (v2 v449 c8_i32_487 : BitVec 32)
    (h : St m K c [] [] [] [] 2 [] [] 16 [] [] [] [] [] [1, 2, 3, 4, 5, 6, 7] [3, 4, 5, 6, 7] [] 3 [29, 28, 18, 17, 16, 15, 14, 13, 12, 11, 10, 9, 8, 7, 0, 6, 5, 4, 3, 2, 1, 19, 27]
      ⊢ runs c (kk ⟨⟩) Q) :
    St m K c [] [] [] [] 2 [] [] 16 [] [] [] [] [] [1, 2, 3, 4, 5, 6, 7] [1, 2, 3, 4, 5, 6, 7] [] 1 [18, 17, 16, 15, 14, 13, 12, 11, 10, 9, 8, 7, 0, 6, 5, 4, 3, 2, 1, 19, 27]
      ⊢ runs c (k0_part18 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 v449 c8_i32_487 >>= kk) Q := by
  rw [k0_part18_eq_skeleton]; unfold k0_part18_skel
  simp only [semSignalWord, semWaitWord, Prog.lift, Prog.bind_op, Prog.bind_ret, Prog.pure_eq_ret, wp_deviceId]
  refine step_recv m K (g := 1) rfl (by decide) rfl ?_
  refine step_recv m K (g := 2) rfl (by decide) rfl ?_
  exact h

/-- Three more. -/
theorem part19 {α : Type} {Q : α → sProp 𝕄} {kk : _ → Prog (TpuEff nD τ sig (Elt F) Λ₀ .tc) α} (v2 : BitVec 32)
    (h : ∀ u v : BitVec 32, St m K c [] [] [] [] 2 [] [] 16 [] [] [] [] [] [1, 2, 3, 4, 5, 6, 7] [6, 7] [] 6 [32, 31, 30, 29, 28, 18, 17, 16, 15, 14, 13, 12, 11, 10, 9, 8, 7, 0, 6, 5, 4, 3, 2, 1, 19, 27]
      ⊢ runs c (kk ⟨u, v⟩) Q) :
    St m K c [] [] [] [] 2 [] [] 16 [] [] [] [] [] [1, 2, 3, 4, 5, 6, 7] [3, 4, 5, 6, 7] [] 3 [29, 28, 18, 17, 16, 15, 14, 13, 12, 11, 10, 9, 8, 7, 0, 6, 5, 4, 3, 2, 1, 19, 27]
      ⊢ runs c (k0_part19 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 >>= kk) Q := by
  rw [k0_part19_eq_skeleton]; unfold k0_part19_skel
  simp only [semSignalWord, semWaitWord, Prog.lift, Prog.bind_op, Prog.bind_ret, Prog.pure_eq_ret, wp_deviceId]
  refine step_recv m K (g := 3) rfl (by decide) rfl ?_
  refine step_recv m K (g := 4) rfl (by decide) rfl ?_
  refine step_recv m K (g := 5) rfl (by decide) rfl ?_
  exact h _ _

/-- The last two; the first send has left. -/
theorem part20 {α : Type} {Q : α → sProp 𝕄} {kk : _ → Prog (TpuEff nD τ sig (Elt F) Λ₀ .tc) α} (v2 v504 c8_i32_547 : BitVec 32)
    (h : St m K c [] [] [] [] 2 [] [] 16 [] [] [] [] [1] [2, 3, 4, 5, 6, 7] [] [] 8 [20, 34, 33, 32, 31, 30, 29, 28, 18, 17, 16, 15, 14, 13, 12, 11, 10, 9, 8, 7, 0, 6, 5, 4, 3, 2, 1, 19, 27]
      ⊢ runs c (kk ⟨⟩) Q) :
    St m K c [] [] [] [] 2 [] [] 16 [] [] [] [] [] [1, 2, 3, 4, 5, 6, 7] [6, 7] [] 6 [32, 31, 30, 29, 28, 18, 17, 16, 15, 14, 13, 12, 11, 10, 9, 8, 7, 0, 6, 5, 4, 3, 2, 1, 19, 27]
      ⊢ runs c (k0_part20 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c v2 v504 c8_i32_547 >>= kk) Q := by
  rw [k0_part20_eq_skeleton]; unfold k0_part20_skel
  simp only [semSignalWord, semWaitWord, Prog.lift, Prog.bind_op, Prog.bind_ret, Prog.pure_eq_ret, wp_deviceId]
  refine step_recv m K (g := 6) rfl (by decide) rfl ?_
  refine step_recv m K (g := 7) rfl (by decide) rfl ?_
  refine step_sent m K (g := 1) rfl (by decide) rfl (by decide) ?_
  exact h

/-- Four more sends have left. -/
theorem part21 {α : Type} {Q : α → sProp 𝕄} {kk : _ → Prog (TpuEff nD τ sig (Elt F) Λ₀ .tc) α}
    (h : St m K c [] [] [] [] 2 [] [] 16 [] [] [] [] [1, 2, 3, 4, 5] [6, 7] [] [] 8 [24, 23, 22, 21, 20, 34, 33, 32, 31, 30, 29, 28, 18, 17, 16, 15, 14, 13, 12, 11, 10, 9, 8, 7, 0, 6, 5, 4, 3, 2, 1, 19, 27]
      ⊢ runs c (kk ⟨⟩) Q) :
    St m K c [] [] [] [] 2 [] [] 16 [] [] [] [] [1] [2, 3, 4, 5, 6, 7] [] [] 8 [20, 34, 33, 32, 31, 30, 29, 28, 18, 17, 16, 15, 14, 13, 12, 11, 10, 9, 8, 7, 0, 6, 5, 4, 3, 2, 1, 19, 27]
      ⊢ runs c (k0_part21 aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6 c >>= kk) Q := by
  rw [k0_part21_eq_skeleton]; unfold k0_part21_skel
  simp only [semSignalWord, semWaitWord, Prog.lift, Prog.bind_op, Prog.bind_ret, Prog.pure_eq_ret, wp_deviceId]
  refine step_sent m K (g := 2) rfl (by decide) rfl (by decide) ?_
  refine step_sent m K (g := 3) rfl (by decide) rfl (by decide) ?_
  refine step_sent m K (g := 4) rfl (by decide) rfl (by decide) ?_
  refine step_sent m K (g := 5) rfl (by decide) rfl (by decide) ?_
  exact h

/-- The whole kernel on one device. -/
theorem body_runs {Q : PUnit → sProp 𝕄} (h : St m K c [] [] [] [] 2 [] [] 16 [] [] [] [] [1, 2, 3, 4, 5, 6, 7] [] [] [] 8 [26, 25, 24, 23, 22, 21, 20, 34, 33, 32, 31, 30, 29, 28, 18, 17, 16, 15, 14, 13, 12, 11, 10, 9, 8, 7, 0, 6, 5, 4, 3, 2, 1, 19, 27] ⊢ Q ⟨⟩) :
    St m K c [1, 2, 3, 4, 5, 6, 7] [1, 2, 3, 4, 5, 6, 7] [0, 1] [] 0 [0, 1, 2, 3, 4, 5, 6, 7, 8, 9, 10, 11, 12, 13, 14, 15] [] 0 [0] [] [1, 2, 3, 4, 5, 6, 7] [] [] [] [1, 2, 3, 4, 5, 6, 7] [0] 0 [19, 27]
      ⊢ runs c (cc0_body aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6) Q := by
  rw [cc0_body_eq_skeleton]; unfold cc0_body_skel
  refine part1 m K fun _ _ _ => (?_)
  refine part2 m K _ _ _ fun _ => (?_)
  refine part3 m K _ _ (?_)
  refine part4 m K _ (?_)
  refine part5 m K _ (?_)
  refine part6 m K _ (?_)
  refine part7 m K _ (?_)
  refine part8 m K _ fun _ => (?_)
  refine part9 m K _ _ (?_)
  refine part10 m K _ fun _ _ => (?_)
  refine part11 m K _ _ _ (?_)
  refine part12 m K _ fun _ _ => (?_)
  refine part13 m K _ _ _ (?_)
  refine part14 m K _ fun _ _ => (?_)
  refine part15 m K _ _ _ (?_)
  refine part16 m K _ (?_)
  refine part17 m K _ fun _ _ => (?_)
  refine part18 m K _ _ _ (?_)
  refine part19 m K _ fun _ _ => (?_)
  refine part20 m K _ _ _ (?_)
  refine part21 m K (?_)
  simp only [Prog.lift, Prog.bind_op, Prog.bind_ret, Prog.pure_eq_ret]
  refine step_sent m K (g := 6) rfl (by decide) rfl (by decide) ?_
  refine step_sent m K (g := 7) rfl (by decide) rfl (by decide) ?_
  show _ ⊢ runs c (.ret _) Q
  unfold runs; rw [wp_ret]; exact h.trans fupd_intro

end Cert.KernelIdealProof

end
-- ==== Proof.IDeal.lean ====
module

public import proofs.«01_k».proof.Proof.IRun

/-!
What a device starts with and what it ends with: buffers cut into their parts, the duties of its own
cells exchanged for the duties it pays, the units owed to its cells, and the state of the kernel's
first and last line put together and taken apart.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists taken apart -/

/-- Two lists one after the other are the two beside each other. -/
theorem each_append (Φ : ℕ → sProp 𝕄) (l' : List ℕ) : ∀ l : List ℕ, each Φ (l ++ l') ⊢ iprop(each Φ l ∗ each Φ l')
  | [] => by show each Φ l' ⊢ iprop(emp ∗ each Φ l'); iintro H; isplitr; · iempintro
             iexact H
  | a :: l => by
    show iprop(Φ a ∗ each Φ (l ++ l')) ⊢ iprop((Φ a ∗ each Φ l) ∗ each Φ l')
    iintro ⟨Ha, H⟩
    ihave H := (each_append Φ l' l) $$ H
    icases H with ⟨H1, H2⟩
    iframe

/-- A list renumbered. -/
theorem each_map (Φ : ℕ → sProp 𝕄) (f : ℕ → ℕ) : ∀ l : List ℕ, each Φ (l.map f) = each (fun a => Φ (f a)) l
  | [] => rfl
  | a :: l => congrArg (fun X => iprop(Φ (f a) ∗ X)) (each_map Φ f l)

/-- A first part of a list, renumbered, and the rest. -/
theorem each_part (Φ : ℕ → sProp 𝕄) (f : ℕ → ℕ) (l l' : List ℕ) :
    each Φ (l.map f ++ l') ⊢ iprop(each (fun a => Φ (f a)) l ∗ each Φ l') :=
  (each_append Φ l' _).trans (Entails.of_eq (by rw [each_map]))

/-- An empty list asks for nothing. -/
theorem each_nil (Φ : ℕ → sProp 𝕄) : (⊢ each Φ []) := by show (⊢ iprop(emp)); iempintro

/-- Some members of a family, listed. -/
theorem bigSep_pick {I : Type} [Fintype I] [DecidableEq I] (Φ : I → sProp 𝕄) (i : ℕ → I) (l : List ℕ) (h : (l.map i).Nodup) :
    bigSep Finset.univ Φ ⊢ each (fun a => Φ (i a)) l :=
  (BI.bigSep_subset (Finset.subset_univ _)).trans (Entails.of_eq (bigSep_each Φ _ i l _ h rfl fun _ _ => rfl))

/-- A family of lists, over all devices, is a list of families. -/
theorem bigSep_each_comm (Φ : Dev nD → ℕ → sProp 𝕄) : ∀ l : List ℕ,
    (bigSep Finset.univ fun c : Dev nD => each (Φ c) l) = each (fun a => bigSep Finset.univ fun c : Dev nD => Φ c a) l
  | [] => bigSep_eq_bigSepL_of_eq (S := (Finset.univ : Finset (Dev nD))) [0, 1, 2, 3, 4, 5, 6, 7] (by decide) (by decide) _ |>.trans (by
      show iprop(emp ∗ emp ∗ emp ∗ emp ∗ emp ∗ emp ∗ emp ∗ emp) = iprop(emp)
      have h1 : (iprop(emp ∗ emp ∗ emp ∗ emp ∗ emp ∗ emp ∗ emp ∗ emp) : sProp 𝕄) ⊢ iprop(emp) := by iintro -; iempintro
      have h2 : (iprop(emp) : sProp 𝕄) ⊢ iprop(emp ∗ emp ∗ emp ∗ emp ∗ emp ∗ emp ∗ emp ∗ emp) := by
        iintro -
        isplitr; · iempintro
        isplitr; · iempintro
        isplitr; · iempintro
        isplitr; · iempintro
        isplitr; · iempintro
        isplitr; · iempintro
        isplitr; · iempintro
        iempintro
      exact BI.equiv_iff.mp ⟨h1, h2⟩)
  | a :: l => by
    show (bigSep Finset.univ fun c : Dev nD => iprop(Φ c a ∗ each (Φ c) l)) = iprop(_ ∗ each _ l)
    rw [bigSep_sep', bigSep_each_comm Φ l]

/-- Every device `g` places on: a rotation of the devices. -/
def rot (g : ℕ) : Dev nD ≃ Dev nD where
  toFun c := fwd c g
  invFun c := fwd c (8 - g % 8)
  left_inv c := by apply Fin.ext; rw [fwd_val, fwd_val]; have := dev_lt c; omega
  right_inv c := by apply Fin.ext; rw [fwd_val, fwd_val]; have := dev_lt c; omega

/-- What every device holds for entry `g`, handed to the device `g` places behind. -/
theorem each_around (Φ : Dev nD → ℕ → sProp 𝕄) (l : List ℕ) :
    (bigSep Finset.univ fun c : Dev nD => each (Φ c) l) ⊢ bigSep Finset.univ fun c : Dev nD => each (fun g => Φ (fwd c g) g) l := by
  rw [bigSep_each_comm, bigSep_each_comm]
  exact each_mono l fun g _ => Entails.of_eq (bigSep_univ_equiv (rot g) fun c => Φ c g)

/-! ## Buffers cut by a numbering -/

section Cut
variable {ℓ : Loc nD τ sig} {q : PosShare TreeShare}

/-- The first `n` regions of a buffer, one by one. -/
theorem split_each (key : Idx ℓ → ℕ) (f : Buf (Elt F) ℓ) : ∀ n : ℕ,
    (ℓ ↦[below key n]{q} f : sProp 𝕄) ⊢ each (fun a => ℓ ↦[at_ key a]{q} f) (List.range n)
  | 0 => by iintro -; iapply (each_nil _)
  | n + 1 => by
    rw [below_succ, List.range_succ]
    refine (pointsTo_union (below_at_disjoint key n)).1.trans ?_
    iintro ⟨H, Ha⟩
    ihave H := (split_each key f n) $$ H
    iapply (each_snoc _ n _)
    iframe

/-- A whole buffer is its parts. -/
theorem split_whole (key : Idx ℓ → ℕ) (f : Buf (Elt F) ℓ) {n : ℕ} (h : ∀ i, key i < n) :
    (ℓ ↦{q} f : sProp 𝕄) ⊢ each (fun a => ℓ ↦[at_ key a]{q} f) (List.range n) := by
  have := split_each (F := F) (q := q) key f n
  rw [below_univ key h] at this
  exact this

/-- Forgetting what is in the parts. -/
theorem each_some (key : Idx ℓ → ℕ) (f : Buf (Elt F) ℓ) (l : List ℕ) :
    each (fun a => (ℓ ↦[at_ key a]{q} f : sProp 𝕄)) l ⊢ each (fun a => iprop(∃ f, ℓ ↦[at_ key a]{q} f)) l :=
  each_mono l fun a _ => by iintro H; iexists f; iexact H

/-- Regions held one by one, put together; the contents are some contents. -/
theorem join_each (key : Idx ℓ → ℕ) : ∀ n : ℕ,
    each (fun a => iprop(∃ f : Buf (Elt F) ℓ, ℓ ↦[at_ key a]{q} f)) (List.range (n + 1)) ⊢ (iprop(∃ f : Buf (Elt F) ℓ, ℓ ↦[below key (n + 1)]{q} f) : sProp 𝕄)
  | 0 => by
    show iprop((∃ f, ℓ ↦[at_ key 0]{q} f) ∗ emp) ⊢ _
    rw [show below key (0 + 1) = at_ key 0 from by ext i; rw [mem_below, mem_at]; omega]
    iintro ⟨H, -⟩; iexact H
  | n + 1 => by
    rw [List.range_succ, below_succ key (n + 1)]
    refine (each_append _ _ _).trans ?_
    rw [each_cons]
    iintro ⟨H, ⟨%g, Hg⟩, -⟩
    ihave H := (join_each key n) $$ H
    icases H with ⟨%f, Hf⟩
    iexists _
    iapply (pointsTo_join (below_at_disjoint key (n + 1)))
    isplitl [Hf] <;> iassumption

/-- The parts, whatever is in them, make the whole buffer. -/
theorem join_whole (key : Idx ℓ → ℕ) {n : ℕ} (h : ∀ i, key i < n + 1) :
    each (fun a => iprop(∃ f : Buf (Elt F) ℓ, ℓ ↦[at_ key a]{q} f)) (List.range (n + 1)) ⊢ (iprop(∃ f : Buf (Elt F) ℓ, ℓ ↦{q} f) : sProp 𝕄) := by
  have := join_each (F := F) (q := q) key n
  rw [below_univ key h] at this
  exact this

/-- None of a buffer is held for nothing. -/
theorem below_none (key : Idx ℓ → ℕ) (f : Buf (Elt F) ℓ) : (⊢ (ℓ ↦[below key 0]{q} f : sProp 𝕄)) := by
  rw [below_zero, pointsTo_empty]; iempintro

end Cut

/-- The `x` buffer has two regions. -/
theorem xkey_lt (i : S512x4096.Idx) : xkey i < 2 := by
  unfold xkey; have h : (i 0).val < 512 := (i 0).isLt; omega
/-- The `w` buffer has sixteen. -/
theorem wkey_lt (i : S4x4096x512.Idx) : wkey i < 16 := by
  unfold wkey
  have h0 : (i 0).val < 4 := (i 0).isLt
  have h1 : (i 1).val < 4096 := (i 1).isLt
  have h2 : (i 2).val < 512 := (i 2).isLt
  omega
/-- So has `w`. -/
theorem bkey_lt (i : S4096x2048.Idx) : bkey i < 16 := by
  unfold bkey
  have h0 : (i 0).val < 4096 := (i 0).isLt
  have h1 : (i 1).val < 2048 := (i 1).isLt
  omega
/-- The product buffer has eight. -/
theorem ykey_lt (i : S8x512x256.Idx) : ykey i < 8 := (i 0).isLt
/-- The result has eight, by sender. -/
theorem okey_lt (i : S4096x256.Idx) : okey i < 8 := by
  unfold okey; have h : (i 0).val < 4096 := (i 0).isLt; omega
/-- The result has eight, by how far away the sender is. -/
theorem orel_lt (c : Dev nD) (i : S4096x256.Idx) : orel c i < 8 := Nat.mod_lt _ (by decide)

/-! ## A device's places at its cells, and its duties -/

/-- The distances to the other devices. -/
abbrev gs : List ℕ := [1, 2, 3, 4, 5, 6, 7]
/-- The pieces of the `w` buffer. -/
abbrev js : List ℕ := [0, 1, 2, 3, 4, 5, 6, 7, 8, 9, 10, 11, 12, 13, 14, 15]

/-- The places at one device's cells. -/
def places (c : Dev nD) : sProp 𝕄 := bigSep Finset.univ fun k : Fin 35 => atPos EX (cell (c, k)) 0 ∅ 0

/-- A device's places at its cells, sorted by what the cells are for. -/
theorem places_deal (c : Dev nD) : places (F := F) c ⊢ iprop(atPos EX (barC c) 0 ∅ 0
    ∗ each (fun p => atPos EX (trC c (1 + p)) 0 ∅ 0) [0, 1] ∗ each (fun j => atPos EX (trC c (3 + j)) 0 ∅ 0) js
    ∗ each (fun g => atPos EX (trC c (19 + g)) 0 ∅ 0) gs ∗ each (fun g => atPos EX (trC c (27 + g)) 0 ∅ 0) gs
    ∗ each (fun n => atPos EX (trC c n) 0 ∅ 0) [19, 27]) := by
  have hc : ∀ {n : ℕ}, n % 35 ≠ 0 → (atPos EX (cell (c, kx n)) 0 ∅ 0 : sProp 𝕄) ⊢ atPos EX (trC c n) 0 ∅ 0 :=
    fun h => Entails.of_eq (by rw [cell_tr c h])
  unfold places
  refine (bigSep_pick _ kx (0 :: (([0, 1] : List ℕ).map (1 + ·) ++ (js.map (3 + ·) ++ (gs.map (19 + ·) ++ (gs.map (27 + ·) ++ [19, 27])))))
    (by decide)).trans ?_
  rw [each_cons]
  iintro ⟨H0, H⟩
  ihave H := (each_part _ _ _ _) $$ H; icases H with ⟨H1, H⟩
  ihave H := (each_part _ _ _ _) $$ H; icases H with ⟨H2, H⟩
  ihave H := (each_part _ _ _ _) $$ H; icases H with ⟨H3, H⟩
  ihave H := (each_part _ _ _ _) $$ H; icases H with ⟨H4, H5⟩
  isplitl [H0]; · iexact H0
  isplitl [H1]; · iapply (each_mono [0, 1] fun a ha => hc (by revert a; decide)); iexact H1
  isplitl [H2]; · iapply (each_mono js fun a ha => hc (by revert a; decide)); iexact H2
  isplitl [H3]; · iapply (each_mono gs fun a ha => hc (by revert a; decide)); iexact H3
  isplitl [H4]; · iapply (each_mono gs fun a ha => hc (by revert a; decide)); iexact H4
  iapply (each_mono [19, 27] fun a ha => hc (by revert a; decide)); iexact H5

/-- The duties of one device's cells: the barrier's eight, then one for every transfer cell. -/
abbrev tokOf (cj : Dev nD × Fin 43) : GSem nD τ sig × ℕ × Fin 8 :=
  if cj.2.val < 8 then (barC cj.1, 0, dn cj.2.val) else (trC cj.1 (cj.2.val - 8), 0, 0)

/-- The duties of the cells of device `c`. -/
def toks (c : Dev nD) : sProp 𝕄 :=
  bigSep Finset.univ fun j : Fin 43 => dutyTok EX (tokOf (c, j)).1 (tokOf (c, j)).2.1 (tokOf (c, j)).2.2

/-- A duty's number. -/
abbrev tx (n : ℕ) : Fin 43 := ⟨n % 43, Nat.mod_lt _ (by decide)⟩

/-- The duties of a device's own cells, by use. -/
def ownToks (c : Dev nD) : sProp 𝕄 :=
  iprop(each (fun g => dutyTok EX (barC c) 0 (dn (8 - g))) gs
    ∗ each (fun p => dutyTok EX (trC c (1 + p)) 0 0) [0, 1] ∗ each (fun j => dutyTok EX (trC c (3 + j)) 0 0) js
    ∗ each (fun g => dutyTok EX (trC c (19 + g)) 0 0) gs ∗ each (fun g => dutyTok EX (trC c (27 + g)) 0 0) gs)

/-- The duties a device pays. -/
def payToks (c : Dev nD) : sProp 𝕄 :=
  iprop(each (fun g => dutyTok EX (barC (fwd c g)) 0 (dn (8 - g))) gs
    ∗ each (fun p => dutyTok EX (trC c (1 + p)) 0 0) [0, 1] ∗ each (fun j => dutyTok EX (trC c (3 + j)) 0 0) js
    ∗ each (fun g => dutyTok EX (trC c (19 + g)) 0 0) gs ∗ each (fun g => dutyTok EX (trC (fwd c g) (27 + g)) 0 0) gs)

/-- The duties of a device's cells, sorted by what the cells are for. -/
theorem toks_own (c : Dev nD) : toks (F := F) c ⊢ ownToks c := by
  have hb : ∀ g : ℕ, 1 ≤ g → (dutyTok EX (tokOf (c, tx (8 - g))).1 (tokOf (c, tx (8 - g))).2.1 (tokOf (c, tx (8 - g))).2.2 : sProp 𝕄)
      ⊢ dutyTok EX (barC c) 0 (dn (8 - g)) := fun g h => Entails.of_eq (by
    have : tokOf (c, tx (8 - g)) = (barC c, 0, dn (8 - g)) := by
      unfold tokOf; rw [if_pos (by show (8 - g) % 43 < 8; omega)]
      congr 2; exact Fin.ext (by show (8 - g) % 43 % 8 = (8 - g) % 8; omega)
    rw [this])
  have ht : ∀ n : ℕ, n < 35 → (dutyTok EX (tokOf (c, tx (8 + n))).1 (tokOf (c, tx (8 + n))).2.1 (tokOf (c, tx (8 + n))).2.2 : sProp 𝕄)
      ⊢ dutyTok EX (trC c n) 0 0 := fun n h => Entails.of_eq (by
    have : tokOf (c, tx (8 + n)) = (trC c n, 0, 0) := by
      unfold tokOf; rw [if_neg (by show ¬ (8 + n) % 43 < 8; omega)]
      rw [show (tx (8 + n)).val - 8 = n from by show (8 + n) % 43 - 8 = n; omega]
    rw [this])
  unfold toks ownToks
  refine (bigSep_pick _ tx (gs.map (8 - ·) ++ (([0, 1] : List ℕ).map (fun p => 8 + (1 + p)) ++ (js.map (fun j => 8 + (3 + j)) ++ (gs.map (fun g => 8 + (19 + g))
    ++ (gs.map (fun g => 8 + (27 + g)) ++ []))))) (by decide)).trans ?_
  iintro H
  ihave H := (each_part _ _ _ _) $$ H; icases H with ⟨H0, H⟩
  ihave H := (each_part _ _ _ _) $$ H; icases H with ⟨H1, H⟩
  ihave H := (each_part _ _ _ _) $$ H; icases H with ⟨H2, H⟩
  ihave H := (each_part _ _ _ _) $$ H; icases H with ⟨H3, H⟩
  ihave H := (each_part _ _ _ _) $$ H; icases H with ⟨H4, -⟩
  isplitl [H0]; · iapply (each_mono gs fun a ha => hb a (by revert a; decide)); iexact H0
  isplitl [H1]; · iapply (each_mono [0, 1] fun a ha => ht _ (by revert a; decide)); iexact H1
  isplitl [H2]; · iapply (each_mono js fun a ha => ht _ (by revert a; decide)); iexact H2
  isplitl [H3]; · iapply (each_mono gs fun a ha => ht _ (by revert a; decide)); iexact H3
  iapply (each_mono gs fun a ha => ht _ (by revert a; decide)); iexact H4

/-- The duties exchanged: every device gets those it pays. -/
theorem toks_around : (bigSep Finset.univ fun c : Dev nD => toks (F := F) c) ⊢ bigSep Finset.univ fun c : Dev nD => payToks c := by
  have key : (bigSep Finset.univ fun c : Dev nD => ownToks (F := F) c) ⊢ bigSep Finset.univ fun c : Dev nD => payToks c := by
   unfold ownToks payToks
   rw [bigSep_sep', bigSep_sep', bigSep_sep', bigSep_sep', bigSep_sep', bigSep_sep', bigSep_sep', bigSep_sep']
   iintro ⟨H0, H1, H2, H3, H4⟩
   iframe H1 H2 H3
   isplitl [H0]
   · iapply (each_around (fun c g => dutyTok EX (barC c) 0 (dn (8 - g))) gs); iexact H0
   · iapply (each_around (fun c g => dutyTok EX (trC c (27 + g)) 0 0) gs); iexact H4
  exact (bigSep_mono fun c _ => toks_own c).trans key

/-! ## The units owed to a device's cells -/

/-- What a device owes at the start: a signal and a block to every other. -/
abbrev O₀ (c : Dev nD) : CellTallies nD τ sig Unit := owe c gs gs

/-- A barrier cell names its device. -/
theorem dev_of_bar {a b : Dev nD} (h : barC a = barC b) : a = b := Fin.ext (congrArg (fun g : GSem nD τ sig => g.1.1.val) h)
/-- A transfer cell names its device and number. -/
theorem of_tr {a b : Dev nD} {n k : ℕ} (h : trC a n = trC b k) : a = b ∧ n % 35 = k % 35 :=
  ⟨Fin.ext (congrArg (fun g : GSem nD τ sig => g.1.1.val) h),
    congrArg (fun g : GSem nD τ sig => match g.2 with | .dma k => (k : Fin 35).val | .reg _ => 0) h⟩
/-- No barrier cell is a transfer cell. -/
theorem bar_ne_tr {a b : Dev nD} {n : ℕ} : barC a ≠ trC b n := fun h => by cases congrArg Prod.snd h

/-- How many entries of a list lead from device `d` to device `c`. -/
def hits (d c : Dev nD) (l : List ℕ) : ℕ := (l.filter fun g => fwd d g = c).length

/-- No block is owed to a barrier cell. -/
theorem oweR_bar (d c : Dev nD) : ∀ l : List ℕ, oweR d l (barC c) () = 0
  | [] => rfl
  | g :: l => by
    unfold oweR
    rw [Pi.add_apply, Finsupp.add_apply, oweR_bar d c l, tallyAt_ne_cell bar_ne_tr, Finsupp.zero_apply, Nat.add_zero]

/-- What device `d` owes to a barrier cell. -/
theorem owe_bar (d c : Dev nD) (ss : List ℕ) : ∀ l : List ℕ, owe d ss l (barC c) () = hits d c l
  | [] => oweR_bar d c ss
  | g :: l => by
    unfold owe
    rw [Pi.add_apply, Finsupp.add_apply, owe_bar d c ss l, tallyAt_apply]
    unfold hits
    rw [List.filter_cons]
    by_cases h : fwd d g = c
    · rw [if_pos ⟨by rw [h], rfl⟩, if_pos (by simpa using h)]; rfl
    · rw [if_neg (fun e => h (dev_of_bar e.1).symm), if_neg (by simpa using h), Nat.add_zero]

/-- The blocks that device `d` owes to a receiving cell. -/
theorem oweR_recv (d c : Dev nD) {g : ℕ} (hg : g < 8) : ∀ l : List ℕ, (∀ a ∈ l, a < 8) →
    oweR d l (trC c (27 + g)) () = hits d c (l.filter (· = g)) * NB
  | [], _ => by unfold hits; simp [oweR]
  | a :: l, hl => by
    unfold oweR
    rw [Pi.add_apply, Finsupp.add_apply, oweR_recv d c hg l fun x hx => hl x (List.mem_cons_of_mem _ hx), tallyAt_apply]
    have ha := hl a (List.mem_cons_self ..)
    unfold hits
    rw [List.filter_cons (x := a)]
    by_cases e : a = g
    · subst e
      rw [if_pos (c := decide (a = a) = true) (decide_eq_true rfl), List.filter_cons]
      by_cases h : fwd d a = c
      · rw [if_pos ⟨by rw [h], rfl⟩, if_pos (by simpa using h), List.length_cons, Nat.add_mul, Nat.one_mul]
      · rw [if_neg (fun e => h (of_tr e.1).1.symm), if_neg (by simpa using h), Nat.add_zero]
    · rw [if_neg (fun h => e (by have := (of_tr h.1).2; omega)), if_neg (by simpa using e), Nat.add_zero]

/-- All that device `d` owes to a receiving cell. -/
theorem owe_recv (d c : Dev nD) {g : ℕ} (hg : g < 8) (ss : List ℕ) (hs : ∀ a ∈ ss, a < 8) : ∀ l : List ℕ,
    owe d ss l (trC c (27 + g)) () = hits d c (ss.filter (· = g)) * NB
  | [] => oweR_recv d c hg ss hs
  | a :: l => by
    unfold owe
    rw [Pi.add_apply, Finsupp.add_apply, owe_recv d c hg ss hs l, tallyAt_ne_cell (fun h => bar_ne_tr h.symm), Finsupp.zero_apply, Nat.add_zero]

/-- At the start seven are owed to every barrier cell. -/
theorem launch_bar (c : Dev nD) :
    tallyOn (barC c) (launchCredit (Pipeline.owing O₀) 0 (barC c)) = (tallyAt (barC c) () 7 : CellTallies nD τ sig Unit) := by
  have h : ∀ c : Dev nD, ∑ d : Dev nD, hits d c gs = 7 := by decide
  unfold tallyAt; refine congrArg _ (Finsupp.ext fun u => ?_); cases u
  rw [Pipeline.launchCredit_owing, Finsupp.single_eq_same, Finset.sum_congr rfl fun d _ => owe_bar d c gs gs, h]

/-- At the start one block is owed to every receiving cell. -/
theorem launch_recv (c : Dev nD) {g : ℕ} (hg : g ∈ gs) :
    tallyOn (trC c (27 + g)) (launchCredit (Pipeline.owing O₀) 0 (trC c (27 + g))) = (tallyAt (trC c (27 + g)) () NB : CellTallies nD τ sig Unit) := by
  have h : ∀ c : Dev nD, ∀ g ∈ gs, ∑ d : Dev nD, hits d c (gs.filter (· = g)) = 1 := by decide
  have h8 : ∀ a ∈ gs, a < 8 := by decide
  unfold tallyAt; refine congrArg _ (Finsupp.ext fun u => ?_); cases u
  rw [Pipeline.launchCredit_owing, Finsupp.single_eq_same, Finset.sum_congr rfl fun d _ => owe_recv d c (h8 g hg) gs h8 gs, ← Finset.sum_mul, h c g hg, Nat.one_mul]

/-- The units the launch hands device `c` for what the others owe it. -/
def creds (c : Dev nD) : sProp 𝕄 :=
  iprop(cred (tallyAt (barC c) () 7) ∗ each (fun g => cred (tallyAt (trC c (27 + g)) () NB)) gs)

/-- The credit a device has at the start, cell by cell. -/
theorem launch_creds (c : Dev nD) : (Pipeline.launchCred O₀ c : sProp 𝕄) ⊢ creds c := by
  unfold Pipeline.launchCred creds
  refine (bigSep_pick _ (fun n => csem (kx n)) (0 :: gs.map (27 + ·)) (by decide)).trans ?_
  rw [each_cons, each_map]
  have h0 : (cred (tallyOn (cell (c, kx 0)) (launchCredit (Pipeline.owing O₀) 0 (cell (c, kx 0)))) : sProp 𝕄) ⊢ cred (tallyAt (barC c) () 7) :=
    Entails.of_eq (congrArg cred (launch_bar c))
  have h1 : ∀ g ∈ gs, (cred (tallyOn (cell (c, kx (27 + g))) (launchCredit (Pipeline.owing O₀) 0 (cell (c, kx (27 + g))))) : sProp 𝕄)
      ⊢ cred (tallyAt (trC c (27 + g)) () NB) := fun g hg => Entails.of_eq (by
    have h35 : ∀ a ∈ gs, (27 + a) % 35 ≠ 0 := by decide
    rw [cell_tr c (h35 g hg), launch_recv c hg])
  exact BI.sep_mono h0 (each_mono gs h1)

end Cert.KernelIdealProof

end
-- ==== Proof.ILaunch.lean ====
module

public import proofs.«01_k».proof.Proof.IDeal
public import Idealize.ShloMosaic.Lib.Pipeline.ValueKit

/-!
The launch: the kernel's body on every device, the devices started together, and the run of the whole
program: every device's result holds the row blocks made for it, the arguments are unchanged, and every
semaphore is back at zero.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first line's state put together -/

/-- Two numbers. -/
theorem range2 : List.range 2 = [0, 1] := rfl
/-- Sixteen numbers. -/
theorem range16 : List.range 16 = js := rfl
/-- Eight numbers. -/
theorem range8 : List.range 8 = 0 :: gs := rfl

/-- Row blocks of the result in the order the device deals with them. -/
theorem range_rows : ∀ c : Dev nD, (List.range 8).Perm (c.val :: gs.map fun g => (fwd c g).val) := by decide
/-- Pieces of `w` in the order the device copies them. -/
theorem range_pieces : ∀ c : Dev nD, (List.range 16).Perm (js.map (bidx c)) := by decide

/-- What a device brings to the kernel besides its scratch buffers and what it knows. -/
def dealt (c : Dev nD) : sProp 𝕄 :=
  iprop(places c ∗ payToks c ∗ creds c ∗ ((c : Thread nD τ).loc main_arg0 ↦{fullShare.right} XC m c)
    ∗ ((c : Thread nD τ).loc main_arg1 ↦{fullShare.right} BC m c))

/-- The scratch buffers, whatever they hold. -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))

/-- The `x` buffer whole, with duties and places, is two copies ready to start. -/
theorem xs_intro (c : Dev nD) : iprop(each (fun p => dutyTok EX (trC c (1 + p)) 0 0) [0, 1] ∗ each (fun p => atPos EX (trC c (1 + p)) 0 ∅ 0) [0, 1]
    ∗ (∃ f, (c : Thread nD τ).loc cc0_scratch0 ↦{fullShare} f) ∗ ((c : Thread nD τ).loc main_arg0 ↦{fullShare.right} XC m c)) ⊢ each (xI m c) [0, 1] := by
  iintro ⟨Ht, Ha, ⟨%f, Hx⟩, Hs⟩
  ihave Hx := (split_whole (q := fullShare) (ℓ := (c : Thread nD τ).loc cc0_scratch0) xkey f xkey_lt) $$ Hx
  ihave Hx := (each_some (ℓ := (c : Thread nD τ).loc cc0_scratch0) xkey f (List.range 2)) $$ Hx
  ihave Hs := (split_whole (ℓ := (c : Thread nD τ).loc main_arg0) xkey (XC m c) xkey_lt) $$ Hs
  ihave H := (each_sep _ _ [0, 1]) $$ [Hx Hs]
  · isplitl [Hx]; · iexact Hx
    iexact Hs
  ihave H := (each_sep _ _ [0, 1]) $$ [Ha H]
  · isplitl [Ha]; · iexact Ha
    iexact H
  ihave H := (each_sep _ _ [0, 1]) $$ [Ht H]
  · isplitl [Ht]; · iexact Ht
    iexact H
  iexact H

/-- The `w` buffer whole, with duties and places, is sixteen copies ready to start. -/
theorem ws_intro (c : Dev nD) : iprop(each (fun j => dutyTok EX (trC c (3 + j)) 0 0) js ∗ each (fun j => atPos EX (trC c (3 + j)) 0 ∅ 0) js
    ∗ (∃ f, (c : Thread nD τ).loc cc0_scratch1 ↦{fullShare} f) ∗ ((c : Thread nD τ).loc main_arg1 ↦{fullShare.right} BC m c)) ⊢ each (wI m c) js := by
  iintro ⟨Ht, Ha, ⟨%f, Hx⟩, Hs⟩
  ihave Hx := (split_whole (q := fullShare) (ℓ := (c : Thread nD τ).loc cc0_scratch1) wkey f wkey_lt) $$ Hx
  ihave Hx := (each_some (ℓ := (c : Thread nD τ).loc cc0_scratch1) wkey f (List.range 16)) $$ Hx
  ihave Hs := (split_whole (ℓ := (c : Thread nD τ).loc main_arg1) bkey (BC m c) bkey_lt) $$ Hs
  ihave Hs := ((each_perm _ (range_pieces c)).trans (Entails.of_eq (each_map _ (bidx c) js))) $$ Hs
  ihave H := (each_sep _ _ js) $$ [Hx Hs]
  · isplitl [Hx]; · iexact Hx
    iexact Hs
  ihave H := (each_sep _ _ js) $$ [Ha H]
  · isplitl [Ha]; · iexact Ha
    iexact H
  ihave H := (each_sep _ _ js) $$ [Ht H]
  · isplitl [Ht]; · iexact Ht
    iexact H
  iexact H

/-- The result whole is seven row blocks to give leave for and one to fill. -/
theorem rows_intro (c : Dev nD) : iprop(each (fun g => dutyTok EX (barC (fwd c g)) 0 (dn (8 - g))) gs ∗ ∃ f, (c : Thread nD τ).loc cc0_stg0_0 ↦{fullShare} f)
    ⊢ iprop(each (sigI (F := F) c) gs ∗ each (oI c) [0]) := by
  iintro ⟨Ht, ⟨%f, Ho⟩⟩
  ihave Ho := (split_whole (q := fullShare) (ℓ := (c : Thread nD τ).loc cc0_stg0_0) okey f okey_lt) $$ Ho
  ihave Ho := ((each_some (ℓ := (c : Thread nD τ).loc cc0_stg0_0) okey f (List.range 8)).trans (each_perm _ (range_rows c))) $$ Ho
  ihave Ho := (Entails.of_eq (each_cons (fun a => iprop(∃ f, (c : Thread nD τ).loc cc0_stg0_0 ↦[at_ okey a]{fullShare} f)) c.val (gs.map fun g => (fwd c g).val))) $$ Ho
  icases Ho with ⟨Ho, Hl⟩
  ihave Hl := (Entails.of_eq (each_map (fun a => iprop(∃ f, (c : Thread nD τ).loc cc0_stg0_0 ↦[at_ okey a]{fullShare} f)) (fun g => (fwd c g).val) gs)) $$ Hl
  isplitl [Ht Hl]
  · ihave H := (each_sep _ _ gs) $$ [Ht Hl]
    · isplitl [Ht]; · iexact Ht
      iexact Hl
    iexact H
  · rw [each_cons, oI_eq, ← okey_orel c (dev_lt c) (g := 0) (by omega)]
    isplitl [Ho]; · iexact Ho
    iapply (each_nil _)

/-- The product buffer whole is eight blocks to fill. -/
theorem ys_intro (c : Dev nD) : iprop(∃ f, (c : Thread nD τ).loc cc0_scratch2 ↦{fullShare} f) ⊢ iprop(yI (F := F) c 0 ∗ each (yI c) gs) := by
  show _ ⊢ each (fun a => iprop(∃ f, (c : Thread nD τ).loc cc0_scratch2 ↦[at_ ykey a]{fullShare} f)) (List.range 8)
  iintro ⟨%f, Hy⟩
  iapply (each_some (ℓ := (c : Thread nD τ).loc cc0_scratch2) ykey f (List.range 8))
  iapply (split_whole (q := fullShare) (ℓ := (c : Thread nD τ).loc cc0_scratch2) ykey f ykey_lt)
  iexact Hy

variable (K : Dev nD × Fin 35 → ℕ)

/-- The two transfer cells the kernel does not use, closed. -/
theorem zs_intro (c : Dev nD) : iprop(ctx m K ∗ each (fun n => atPos EX (trC c n) 0 ∅ 0) [19, 27]) ⊢ |={Set.univ}=> each (zI c) [19, 27] := by
  have hz : ∀ n : ℕ, n % 35 ≠ 0 → used (n % 35) = false → iprop(ctx m K ∗ atPos EX (trC c n) 0 ∅ 0) ⊢ |={Set.univ}=> zI c n := fun n h0 hn => by
    unfold zI
    rw [cell_tr c h0]
    exact (sep_mono_left (ctx_inv_tr m K c h0)).trans
      (Rounds.cell_close EX (plan m) (Set.mem_univ (K (c, kx n))) (fun h => h) (R := 0) (fun r _ => duties_unused m c n hn r))
  rw [each_cons, each_cons, each_cons, each_cons]
  iintro ⟨#HC, H1, H2, -⟩
  imod (hz 19 (by decide) (by decide)) $$ [H1] with Hz1
  · isplitr; · iexact HC
    iexact H1
  imod (hz 27 (by decide) (by decide)) $$ [H2] with Hz2
  · isplitr; · iexact HC
    iexact H2
  imodintro
  isplitl [Hz1]; · iexact Hz1
  isplitl [Hz2]; · iexact Hz2
  iapply (each_nil _)

/-- The eight slots of the product buffer together again. -/
theorem ys_elim (c : Dev nD) : iprop(yI (F := F) c 0 ∗ each (yPay m c) gs) ⊢ iprop(∃ f, (c : Thread nD τ).loc cc0_scratch2 ↦{fullShare} f) :=
  (sep_mono_right (each_some (ℓ := (c : Thread nD τ).loc cc0_scratch2) ykey (YC m c) gs)).trans
    (join_whole (ℓ := (c : Thread nD τ).loc cc0_scratch2) ykey (n := 7) ykey_lt)

/-- The state at the kernel's first line; slot 0 of the product buffer, which the kernel does not use, stays apart. -/
theorem start_state (c : Dev nD) : iprop(ctx m K ∗ (∃ W, owes (c : Thread nD τ) (O₀ c) W) ∗ dealt m c ∗ scratch c ∗ ∃ f, (c : Thread nD τ).loc cc0_stg0_0 ↦{fullShare} f)
    ⊢ |={Set.univ}=> iprop(yI (F := F) c 0 ∗ St m K c gs gs [0, 1] [] 0 js [] 0 [0] [] gs [] [] [] gs [0] 0 [19, 27]) := by
  unfold dealt scratch payToks creds
  iintro ⟨#HC, Ho, ⟨Hpl, ⟨Ht0, Ht1, Ht2, Ht3, Ht4⟩, ⟨Hc0, Hc1⟩, Ha0, Ha1⟩, ⟨Hx, Hw, Hy⟩, Hout⟩
  ihave Hpl := (places_deal c) $$ Hpl
  icases Hpl with ⟨Hp0, Hp1, Hp2, Hp3, Hp4, Hp5⟩
  imod (zs_intro m K c) $$ [Hp5] with Hz
  · isplitr; · iexact HC
    iexact Hp5
  ihave Hx := (xs_intro m c) $$ [Ht1 Hp1 Hx Ha0]
  · iframe
  ihave Hw := (ws_intro m c) $$ [Ht2 Hp2 Hw Ha1]
  · iframe
  ihave Hr := (rows_intro c) $$ [Ht0 Hout]
  · iframe
  icases Hr with ⟨Hsg, Hot⟩
  ihave Hy := (ys_intro c) $$ Hy
  icases Hy with ⟨Hy0, Hy⟩
  ihave Hss := ((sep_mono_right (each_sep _ _ gs)).trans (each_sep _ _ gs)) $$ [Ht3 Hp3 Ht4]
  · isplitl [Ht3]; · iexact Ht3
    isplitl [Hp3]; · iexact Hp3
    iexact Ht4
  ihave Hrv := (each_sep _ _ gs) $$ [Hp4 Hc1]
  · isplitl [Hp4]; · iexact Hp4
    iexact Hc1
  imodintro
  isplitl [Hy0]; · iexact Hy0
  unfold St
  isplitr; · iexact HC
  isplitl [Ho]; · iexact Ho
  isplitl [Hsg]; · iexact Hsg
  isplitl [Hx]; · iexact Hx
  isplitr; · iapply (each_nil _)
  isplitr; · iapply (below_none (ℓ := (c : Thread nD τ).loc cc0_scratch0) xkey _)
  isplitl [Hw]; · iexact Hw
  isplitr; · iapply (each_nil _)
  isplitr; · iapply (below_none (ℓ := (c : Thread nD τ).loc cc0_scratch1) wkey _)
  isplitl [Hp0 Hc0]
  · rw [each_cons, barI_eq]
    isplitl [Hp0 Hc0]; · isplitl [Hp0] <;> iassumption
    iapply (each_nil _)
  isplitr; · iapply (each_nil _)
  isplitl [Hy]; · iexact Hy
  isplitr; · iapply (each_nil _)
  isplitr; · iapply (each_nil _)
  isplitl [Hss]; · iexact Hss
  isplitr; · iapply (each_nil _)
  isplitl [Hrv]; · iexact Hrv
  isplitl [Hot]; · iexact Hot
  isplitr; · iapply (below_none (ℓ := (c : Thread nD τ).loc cc0_stg0_0) (orel c) _)
  iexact Hz

/-! ## The last line's state taken apart -/

/-- The cells in the order the kernel closes them. -/
abbrev closed : List ℕ := [26, 25, 24, 23, 22, 21, 20, 34, 33, 32, 31, 30, 29, 28, 18, 17, 16, 15, 14, 13, 12, 11, 10, 9, 8, 7, 0, 6, 5, 4, 3, 2, 1, 19, 27]
/-- The cells closed at the end are all 35. -/
theorem closed_perm : closed.Perm (0 :: (List.range 34).map (1 + ·)) := by decide

/-- The barrier counter at zero. -/
theorem unscopedSems0_eq (c : Dev nD) : (unscopedSems0 c : sProp 𝕄) = zI c 0 := by
  unfold unscopedSems0; rw [bigSep_eq_bigSepL_of_eq [SemLoc.reg barS] (by decide) (by decide)]; rfl

/-- The kernel's own counters at zero, one by one. -/
theorem ownSems0_eq (c : Dev nD) : (Pipeline.ownSems0 (Ix := Unit) (Name := ℕ) (U := UU) (Lvl := ℕ) (Val := Elt F) (τ := τ) osem c : sProp 𝕄)
    = each (zI c) ((List.range 34).map (1 + ·)) := by
  have h34 : ∀ n ∈ List.range 34, ((⟨n % 34, Nat.mod_lt _ (by decide)⟩ : Fin 34).val + 1) = 1 + n := by decide
  have h35 : ∀ n ∈ List.range 34, (1 + n) % 35 ≠ 0 := by decide
  unfold Pipeline.ownSems0
  rw [each_map]
  exact bigSep_each _ _ (fun n => (⟨n % 34, Nat.mod_lt _ (by decide)⟩ : Fin 34)) (List.range 34) _ (by decide) (by decide) fun n hn => by
    unfold zI; rw [cell_tr c (h35 n hn)]
    show semVal ((c : Thread nD τ), osem _) 0 = _
    rw [show osem (⟨n % 34, Nat.mod_lt _ (by decide)⟩ : Fin 34) = .dma (tsem (1 + n)) from by unfold osem; rw [h34 n hn]]

/-- All cells closed are all counters at zero. -/
theorem closed_sems (c : Dev nD) : each (zI c) closed
    ⊢ iprop(unscopedSems0 c ∗ (Pipeline.ownSems0 (Ix := Unit) (Name := ℕ) (U := UU) (Lvl := ℕ) (Val := Elt F) (τ := τ) osem c : sProp 𝕄)) := by
  rw [unscopedSems0_eq, ownSems0_eq]
  exact each_perm _ closed_perm

/-- What a device has at the end. -/
def ended (c : Dev nD) : sProp 𝕄 :=
  iprop(unscopedSems0 c ∗ Pipeline.ownSems0 (Ix := Unit) (Name := ℕ) (U := UU) (Lvl := ℕ) (Val := Elt F) (τ := τ) osem c ∗ scratch c)

/-- The state after the last operation is what the kernel has to give back. -/
theorem end_state (c : Dev nD) : iprop(yI (F := F) c 0 ∗ St m K c [] [] [] [] 2 [] [] 16 [] [] [] [] gs [] [] [] 8 closed)
    ⊢ iprop(ended c ∗ (∃ W, owes (c : Thread nD τ) 0 W) ∗ ((c : Thread nD τ).loc cc0_stg0_0 ↦{fullShare} OC m c)) := by
  unfold St ended scratch
  rw [below_univ xkey xkey_lt, below_univ wkey wkey_lt, below_univ (orel c) (orel_lt c)]
  iintro ⟨Hy0, -, Ho, -, -, -, Hx, -, -, Hw, -, -, -, -, Hy, -, -, -, -, Hout, Hz⟩
  ihave Hz := (closed_sems c) $$ Hz
  icases Hz with ⟨Hu, Hs⟩
  isplitr [Ho Hout]
  · isplitl [Hu]; · iexact Hu
    isplitl [Hs]; · iexact Hs
    isplitl [Hx]; · iexists _; iexact Hx
    isplitl [Hw]; · iexists _; iexact Hw
    iapply (ys_elim m c)
    isplitl [Hy0] <;> iassumption
  isplitl [Ho]; · iexact Ho
  iexact Hout

/-- The kernel on one device, from what it is dealt to its result. -/
theorem body_sound (c : Dev nD) :
    iprop(ctx m K ∗ (∃ W, owes (c : Thread nD τ) (O₀ c) W) ∗ dealt m c ∗ scratch c ∗ ∃ f, (c : Thread nD τ).loc cc0_stg0_0 ↦{fullShare} f)
      ⊢ runs c (cc0_body aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6)
          fun _ => iprop(ended c ∗ (∃ W, owes (c : Thread nD τ) 0 W) ∗ ((c : Thread nD τ).loc cc0_stg0_0 ↦{fullShare} OC m c)) := by
  have h1 := body_runs m K (c := c) (Q := fun _ => St m K c [] [] [] [] 2 [] [] 16 [] [] [] [] gs [] [] [] 8 closed) (BI.Entails.refl _)
  iintro H
  iapply (fupd_wp frame _ _ _ _)
  imod (start_state m K c) $$ H with ⟨Hy, H⟩
  imodintro
  iapply (wp_mono frame _ _ fun _ => end_state m K c)
  iapply (wp_frame_l frame _ _)
  isplitl [Hy]; · iexact Hy
  iapply h1; iexact H

end Cert.KernelIdealProof

end
-- ==== Proof.IMain.lean ====
module

public import proofs.«01_k».proof.Proof.ILaunch
public import Idealize.ShloMosaic.Lib.Pipeline.CollectiveSegs

/-!
The run of the whole program: the devices' cells opened together, the kernel started on every device,
and what memory holds when all have finished.
-/

@[expose] public section

noncomputable section

namespace Cert.KernelIdealProof

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel as the launch sees it -/

/-- What a device has before the kernel's only grid point, save its scratch buffers. -/
def start (c : Dev nD) : sProp 𝕄 := iprop((∃ K, ctx m K) ∗ dealt m c)

/-- The launch's account of the kernel: the result buffer is written whole; what is held and owed before
    the only grid point and after it. -/
def dats (_ : Fin 1) (c : Dev nD) : Dat τ (Elt F) Unit ℕ UU ℕ cfg0 c where
  A w := m ((cfg0.win w).arr.view.loc (c : Thread nD τ))
  after w _ := match w with | ⟨0, _⟩ => OC m c
  Φ t := match t with
    | ⟨0, _⟩ => iprop(start m c ∗ scratch c)
    | ⟨_ + 1, _⟩ => ended c
  q _ := fullShare
  owed t := match t with
    | ⟨0, _⟩ => O₀ c
    | ⟨_ + 1, _⟩ => 0

/-- A whole buffer owned is all of its elements held. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the launch asks of the kernel's body on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop((start m c ∗ scratch c) ∗ (dats m 0 c).owesAt () t0_0.castSucc ∗ (∃ d, holds c cc0_stg0_0 ((dats m 0 c).before (0 : Fin 1) t0_0 d)))
    ⊢ runs c (cc0_body aM (Memref.isWhole_whole _) bM (Memref.isWhole_whole _) oM (Memref.isWhole_whole _) xM (Memref.isWhole_whole _) wM (Memref.isWhole_whole _) yM (Memref.isWhole_whole _) cc0_scratch3 cc0_scratch4 cc0_scratch5 cc0_scratch6)
        fun _ => iprop(ended c ∗ (dats m 0 c).owesAt () t0_0.succ ∗ holds c cc0_stg0_0 (OC m c))
  have hend : iprop(ended c ∗ (∃ W, owes (c : Thread nD τ) 0 W) ∗ ((c : Thread nD τ).loc cc0_stg0_0 ↦{fullShare} OC m c))
      ⊢ iprop(ended c ∗ (dats m 0 c).owesAt () t0_0.succ ∗ holds c cc0_stg0_0 (OC m c)) := by
    unfold Dat.owesAt Pipeline.owesWithin
    rw [show (dats m 0 c).owed t0_0.succ = 0 from rfl]
    iintro ⟨He, ⟨%W, Ho⟩, Hout⟩
    isplitl [He]; · iexact He
    isplitl [Ho]
    · iexists W; isplitr; · (ipureintro; exact fun _ _ => Or.inl trivial)
      iexact Ho
    iexists _; isplitr; · (ipureintro; rfl)
    iexact Hout
  unfold start
  iintro ⟨⟨⟨⟨%K, HC⟩, Hd⟩, Hs⟩, Ho, ⟨%d, %f, -, Hout⟩⟩
  unfold Dat.owesAt Pipeline.owesWithin
  icases Ho with ⟨%W, -, Ho⟩
  rw [show (dats m 0 c).owed t0_0.castSucc = O₀ c from rfl]
  iapply (wp_mono frame _ _ fun _ => hend)
  iapply (body_sound m K c)
  isplitl [HC]; · iexact HC
  isplitl [Ho]; · iexists W; iexact Ho
  isplitl [Hd]; · iexact Hd
  isplitl [Hs]; · iexact Hs
  iexists f; iexact Hout

/-! ## The cells opened -/

/-- The kernel's own semaphores are none of the staging ones. -/
theorem ownSemFacts : Pipeline.OwnSemFacts cfg0.spec osem := by decide

/-- The result buffer is held in full. -/
theorem share_eq (c : Dev nD) (w : Fin cfg0.W) : (dats (F := F) m 0 c).share w = fullShare := by
  unfold Dat.share; split <;> rfl

/-- Cells with different numbers have different semaphores. -/
theorem csem_inj : Function.Injective csem := fun k k' h => by
  have hk := k.isLt; have hk' := k'.isLt
  unfold csem at h
  split at h <;> split at h
  · exact Fin.ext (by omega)
  · cases h
  · cases h
  · have := congrArg (fun s : SemLoc sig => match s with | .dma q => (q : Fin 35).val | .reg _ => 0) h
    have h' : k.val % 35 = k'.val % 35 := this
    exact Fin.ext (by omega)

/-- No two devices share a cell. -/
theorem cell_inj : Function.Injective (cell : Dev nD × Fin 35 → GSem nD τ sig) := fun ⟨c, k⟩ ⟨c', k'⟩ h => by
  have hc : c = c' := Fin.ext (congrArg (fun g : GSem nD τ sig => g.1.1.val) h)
  have hk : k = k' := csem_inj (congrArg Prod.snd h)
  rw [hc, hk]

/-- No two duties are the same. -/
theorem tokOf_inj : Function.Injective (tokOf : Dev nD × Fin 43 → GSem nD τ sig × ℕ × Fin 8) := fun ⟨c, j⟩ ⟨c', j'⟩ h => by
  have hj := j.isLt; have hj' := j'.isLt
  have hc : c = c' := by
    have := congrArg (fun x : GSem nD τ sig × ℕ × Fin 8 => x.1.1.1.val) h
    unfold tokOf at this
    split at this <;> split at this <;> exact Fin.ext this
  have hjj : j = j' := by
    unfold tokOf at h
    split at h <;> split at h
    · have h2 : j.val % 8 = j'.val % 8 := congrArg (fun x : GSem nD τ sig × ℕ × Fin 8 => x.2.2.val) h
      exact Fin.ext (by dsimp only at *; omega)
    · exact absurd (congrArg Prod.fst h) bar_ne_tr
    · exact absurd (congrArg Prod.fst h).symm bar_ne_tr
    · have := (of_tr (congrArg Prod.fst h)).2
      exact Fin.ext (by dsimp only at *; omega)
  rw [hc, hjj]

/-- The cells of all devices. -/
def allCells : Finset (GSem nD τ sig) := Finset.univ.map ⟨cell, cell_inj⟩
/-- The duties of all devices. -/
def allToks : Finset (GSem nD τ sig × ℕ × Fin 8) := Finset.univ.map ⟨tokOf, tokOf_inj⟩

/-- What is owned at the very start: the launch's own cells, and the kernel's. -/
def u₀ : UU := (initOf (Pipeline.cells cfgs cellOf_inj) (Pipeline.launchToks cfgs cellOf_inj), initOf allCells allToks)

/-- That, for one device: its cells at round zero, its places there, and the duties of its cells. -/
def G (c : Dev nD) : sProp 𝕄 :=
  iprop((bigSep Finset.univ fun k : Fin 35 => roundState EX (plan m) (cell (c, k)) 0)
    ∗ (bigSep Finset.univ fun k : Fin 35 => reached EX (cell (c, k)) 0) ∗ places c ∗ toks c)

/-- The tallies at the start, shared out to the devices. -/
theorem fund_all : BI.own (EX (initOf allCells allToks)) ⊢ (|==> bigSep Finset.univ (G m) : sProp 𝕄) := by
  have hcells (Φ : GSem nD τ sig → sProp 𝕄) : bigSep allCells Φ = bigSep Finset.univ fun c : Dev nD => bigSep Finset.univ fun k : Fin 35 => Φ (cell (c, k)) := by
    unfold allCells; rw [bigSep_map, bigSep_univ_prod]; rfl
  have htoks : bigSep allToks (fun x => (dutyTok EX x.1 x.2.1 x.2.2 : sProp 𝕄)) = bigSep Finset.univ fun c : Dev nD => toks c := by
    unfold allToks; rw [bigSep_map, bigSep_univ_prod]; rfl
  iintro H
  imod (Rounds.fund EX (plan m) allCells allToks) $$ H with ⟨Hs, Hr, Ha, Ht⟩
  imodintro
  ihave Hs := (Entails.of_eq (hcells fun g => roundState EX (plan m) g 0)) $$ Hs
  ihave Hr := (Entails.of_eq (hcells fun g => reached EX g 0)) $$ Hr
  ihave Ha := (Entails.of_eq (hcells fun g => atPos EX g 0 ∅ 0)) $$ Ha
  ihave Ht := (Entails.of_eq htoks) $$ Ht
  unfold G places; simp only [bigSep_sep']
  isplitl [Hs]; · iexact Hs
  isplitl [Hr]; · iexact Hr
  isplitl [Ha]; · iexact Ha
  iexact Ht

/-- The semaphores of one device, all at zero, as its cells'. -/
theorem sems_cells (c : Dev nD) : iprop(Pipeline.ownSems0 (Ix := Unit) (Name := ℕ) (U := UU) (Lvl := ℕ) (Val := Elt F) (τ := τ) osem c ∗ unscopedSems0 c)
    ⊢ (bigSep Finset.univ fun k : Fin 35 => semVal (cell (c, k)) 0 : sProp 𝕄) := by
  rw [ownSems0_eq, unscopedSems0_eq, bigSep_each (fun k : Fin 35 => (semVal (cell (c, k)) 0 : sProp 𝕄)) (zI c) kx (0 :: (List.range 34).map (1 + ·)) Finset.univ
    (by decide) (by decide) fun _ _ => rfl, each_cons]
  iintro ⟨H1, H2⟩; isplitl [H2] <;> iassumption

/-- The cells of one device opened. -/
theorem cells_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (plan m) κ (cell (c, k))))
          ∗ (bigSep Finset.univ fun k : Fin 35 => reached EX (cell (c, k)) 0) ∗ places c ∗ toks c) := by
  have hopen : iprop((bigSep Finset.univ fun k : Fin 35 => semVal (cell (c, k)) 0) ∗ bigSep Finset.univ fun k : Fin 35 => roundState EX (plan m) (cell (c, k)) 0)
      ⊢ (|={Set.univ}=> bigSep Finset.univ fun k => iprop(∃ κ : ℕ, cellInv EX (plan m) κ (cell (c, k))) : sProp 𝕄) := by
    rw [← bigSep_sep']
    exact (bigSep_mono fun k _ => (Rounds.body_intro EX (plan m) (cell (c, k))).trans inv_alloc).trans (bigSep_fupd _ _)
  unfold G
  iintro ⟨Ho, Hu, Hs, Hrest⟩
  ihave Hv := (sems_cells (F := F) c) $$ [Ho Hu]
  · isplitl [Ho] <;> iassumption
  imod hopen $$ [Hv Hs] with Hi
  · isplitl [Hv] <;> iassumption
  imodintro
  isplitl [Hi] <;> iassumption

/-- What every device knows, save the levels. -/
def records (K : Dev nD × Fin 35 → ℕ) : sProp 𝕄 :=
  iprop((bigSep Finset.univ fun ck : Dev nD × Fin 35 => cellInv EX (plan m) (K ck) (cell ck))
    ∗ bigSep Finset.univ fun ck : Dev nD × Fin 35 => reached EX (cell ck) 0)

/-- What is known of the cells stays known. -/
instance records_persistent (K : Dev nD × Fin 35 → ℕ) : BI.Persistent (records m K) := by unfold records; infer_instance

/-- What a device has of the cells: what it knows, its places, and the duties it pays. -/
def G' (c : Dev nD) : sProp 𝕄 := iprop((∃ K, records m K) ∗ places c ∗ payToks c)

/-- Every device's rules made known to all, and the duties handed to those who pay them. -/
theorem shared_out : (bigSep Finset.univ fun c : Dev nD => iprop((bigSep Finset.univ fun k => iprop(∃ κ : ℕ, cellInv EX (plan m) κ (cell (c, k))))
          ∗ (bigSep Finset.univ fun k : Fin 35 => reached EX (cell (c, k)) 0) ∗ places c ∗ toks c) : sProp 𝕄)
      ⊢ bigSep Finset.univ (G' m) := by
  have hcopy (K : Dev nD × Fin 35 → ℕ) : records m K ⊢ bigSep Finset.univ fun _ : Dev nD => iprop(∃ K, records m K) := by
    have h1 : records m K ⊢ (iprop(∃ K, records m K) : sProp 𝕄) := by iintro H; iexists K; iexact H
    exact (BI.bigSep_of_persistent Finset.univ (records m K)).trans (bigSep_mono fun c _ => h1)
  unfold G'
  rw [bigSep_sep', bigSep_sep', bigSep_sep', bigSep_sep', bigSep_sep',
    ← bigSep_univ_prod (fun ck : Dev nD × Fin 35 => iprop(∃ κ : ℕ, cellInv EX (plan m) κ (cell ck))),
    ← bigSep_univ_prod (fun ck : Dev nD × Fin 35 => (reached EX (cell ck) 0 : sProp 𝕄))]
  iintro ⟨Hi, Hr, Ha, Ht⟩
  ihave Hi := (BI.bigSep_exists_pi Finset.univ (fun (ck : Dev nD × Fin 35) (κ : ℕ) => (cellInv EX (plan m) κ (cell ck) : sProp 𝕄))) $$ Hi
  icases Hi with ⟨%K, Hi⟩
  ihave Ht := (toks_around (F := F)) $$ Ht
  isplitl [Hi Hr]
  · iapply (hcopy K); unfold records; isplitl [Hi] <;> iassumption
  isplitl [Ha] <;> iassumption

/-- All devices' cells opened together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_open m c).trans (bigSep_fupd _ _)).trans (BI.fupd_mono (shared_out m))

/-! ## Start and finish -/

/-- The halves of the arguments that the kernel does not read through. -/
def kept (c : Dev nD) : sProp 𝕄 :=
  iprop(((c : Thread nD τ).loc main_arg0 ↦{fullShare.left} m ((c : Thread nD τ).loc main_arg0)) ∗ ((c : Thread nD τ).loc main_arg1 ↦{fullShare.left} m ((c : Thread nD τ).loc main_arg1)))

/-- What the launch gives a device is what its body starts from, and the part of the arguments kept aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  have hs0 := (pointsTo_share (ℓ := (c : Thread nD τ).loc main_arg0) (I := Finset.univ) (f := m ((c : Thread nD τ).loc main_arg0)) (Ix := Unit) (Name := ℕ) (U := UU) (Lvl := ℕ) (PosShare.mem_left_op_right fullShare)).1
  have hs1 := (pointsTo_share (ℓ := (c : Thread nD τ).loc main_arg1) (I := Finset.univ) (f := m ((c : Thread nD τ).loc main_arg1)) (Ix := Unit) (Name := ℕ) (U := UU) (Lvl := ℕ) (PosShare.mem_left_op_right fullShare)).1
  rw [Pipeline.unscopedRestP_none, unscopedRest0_eq]
  unfold start kept dealt G' ctx records
  iintro ⟨⟨H0, H1⟩, Hl, Hc, -, ⟨%K, Hi, Hr⟩, Hp, Ht⟩
  ihave Hc := (launch_creds (F := F) c) $$ Hc
  ihave H0 := hs0 $$ H0
  icases H0 with ⟨H0l, H0r⟩
  ihave H1 := hs1 $$ H1
  icases H1 with ⟨H1l, H1r⟩
  imodintro
  isplitr [H0l H1l]
  · isplitl [Hl Hi Hr]
    · iexists K; iframe
    · iframe
  · iframe

/-- That and the scratch are the body's first state. -/
theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

/-- The body's last state gives back the scratch and every counter at zero. -/
theorem phi_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = ended c from rfl, scopedRest0_eq]
  exact BI.Entails.refl _

/-- The staging cells may be waited on throughout. -/
theorem waits (c : Dev nD) : (levAts L lv : sProp 𝕄) ⊢ Pipeline.cellsWaits cfgs (dats m) () 0 c :=
  Pipeline.cellsWaits_intro cfgs (dats m) () 0 c fun w s t => by
    have hq : ∀ (w : Fin 1) (s : Fin (spec0 w).nbuf), ((((spec0 w).sem s) : DmaSem sig) : Fin 35).val < 27 := by decide
    rcases t with ⟨_ | _, ht⟩
    · exact mayWait_low c _ (hq w s) (ss := gs) (by decide) gs
    · exact mayWait_low c _ (hq w s) (ss := []) (by decide) []

/-! ## The run -/

/-- The memory at the end: every result buffer as computed, the arguments as they were. -/
def QC (s : MemSt nD τ sig (Elt F)) : Prop :=
  ∀ c : Dev nD, s.mem ((c : Thread nD τ).loc main_v1) = OC m c
    ∧ s.mem ((c : Thread nD τ).loc main_arg0) = m ((c : Thread nD τ).loc main_arg0)
    ∧ s.mem ((c : Thread nD τ).loc main_arg1) = m ((c : Thread nD τ).loc main_arg1)

/-- The result buffer after the kernel's only grid point. -/
theorem final_result (c : Dev nD) : (dats m 0 c).arrAt (0 : Fin 1) cfg0.N = OC m c := by
  refine (dats m 0 c).arrAt_eq_of_after_last (0 : Fin 1) t0_0 (by decide +kernel) _ fun j => ?_
  blk_simp
  rfl

/-- What is read of one device's memory at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

/-- A buffer held is what memory holds. -/
theorem read_one (ℓ : Loc nD τ sig) (f : Buf (Elt F) ℓ) (q : PosShare TreeShare) (s' : Phys nD τ sig (Elt F)) :
    iprop((ℓ ↦{q} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s' q
  rw [bigSep_singleton] at h
  refine h.trans ?_
  iintro ⟨%hr, H⟩
  isplitr; · ipureintro; exact hr () (Finset.mem_singleton_self _)
  iexact H

/-- Counters and arguments read off memory at the end. -/
theorem read_end (c : Dev nD) (s' : Phys nD τ sig (Elt F)) : iprop(unscopedSems0 c ∗ kept m c ∗ SI s') ⊢ |={Set.univ}=> iprop(⌜QY m c s'.mem⌝ ∗ (SI s' : sProp 𝕄)) := by
  unfold kept QY
  iintro ⟨Hu, ⟨H0, H1⟩, HS⟩
  ihave H := (read_one _ _ _ s') $$ [H0 HS]
  · isplitl [H0] <;> iassumption
  icases H with ⟨%h0, HS⟩
  ihave H := (read_one _ _ _ s') $$ [H1 HS]
  · isplitl [H1] <;> iassumption
  icases H with ⟨%h1, HS⟩
  imod (Pipeline.unscopedSems0_read (X := unscopedSems0 c) (c := c) fupd_intro s') $$ [Hu HS] with ⟨%hu, HS⟩
  · isplitl [Hu] <;> iassumption
  imodintro
  isplitr; · ipureintro; exact ⟨hu, h0, h1⟩
  iexact HS

set_option maxRecDepth 8000 in
/-- From any memory, with every semaphore at zero, every fair run of the program ends; then every device's
    result is the row blocks made for it, the arguments are unchanged, and every semaphore is at zero. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi_start m) (hout := phi_end m)
    (QY := QY m) (hY := read_end m)
    (hQ := fun _ h hs => ⟨fun c => ⟨((h c).1 (0 : Fin 1)).trans (final_result m c), (h c).2.2.2⟩, sem_eq_zero hs fun c => (h c).2.2.1⟩)

end Cert.KernelIdealProof

end
-- ==== Proof.Values.lean ====
module

public import proofs.«01_k».proof.Proof.IPlan
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.LayoutAt

/-!
What the kernel leaves and what the reference leaves, element by element over the extended reals:
both are the product's entry, negative entries replaced by zero. From that, each device's result is
its block of columns of the reference's.
-/

@[expose] public section

noncomputable section

namespace Cert.Values

open Idealize.ShloMosaic
open Idealize.ShloMosaic.TcCoe
open Idealize.ShloMosaic.ValueIdx (ix2 ix3 eq_ix2)

/-- A number, or zero if it is below zero. -/
def relu (t : EReal) : EReal := FloatOps.maximumf (F := Ideal) (φ := .f32) t (Scalar.ofBits .f32 0x00000000#32)

/-- The product of a row of an array with a column of another. -/
def dot {M K N : ℕ} (X : (⟨2, ![M, K]⟩ : Shape).Idx → EReal) (W : (⟨2, ![K, N]⟩ : Shape).Idx → EReal) (r : Fin M) (n : Fin N) : EReal :=
  ∑ k : Fin K, X (ix2 r k) * W (ix2 k n)

/-- Two such products of factors that agree. -/
theorem dot_congr {M M' K N N' : ℕ} {X : (⟨2, ![M, K]⟩ : Shape).Idx → EReal} {X' : (⟨2, ![M', K]⟩ : Shape).Idx → EReal}
    {W : (⟨2, ![K, N]⟩ : Shape).Idx → EReal} {W' : (⟨2, ![K, N']⟩ : Shape).Idx → EReal} {r : Fin M} {r' : Fin M'} {n : Fin N} {n' : Fin N'}
    (hX : ∀ k, X (ix2 r k) = X' (ix2 r' k)) (hW : ∀ k, W (ix2 k n) = W' (ix2 k n')) : dot X W r n = dot X' W' r' n' :=
  Finset.sum_congr rfl fun k _ => by rw [hX, hW]

section Ref
open Cert.ReferenceIdeal Cert.ReferenceIdeal.Gen

/-- What the reference computes from the whole `x` and `w`. -/
def whole (X : FVec Ideal S4096x4096 .f32) (W : FVec Ideal S4096x2048 .f32) : FVec Ideal S4096x2048 .bf16 :=
  truncf .bf16 (maximumf (Host.dotGeneral dot_S4096x4096_S4096x2048_S4096x2048_1_0_0_1_n_n none X W)
    (broadcastInDim S4096x2048 ![] Facts₀.bcast_S_S4096x2048 (constant S_ .f32 0x00000000#32))) Facts₀.bitsLt_bf16_f32

/-- The reference's result at row `r` and column `n`. -/
theorem whole_apply (X : FVec Ideal S4096x4096 .f32) (W : FVec Ideal S4096x2048 .f32) (r : Fin 4096) (n : Fin 2048) :
    whole X W (ix2 r n) = relu (dot X W r n) :=
  congrArg relu (StackMember.dotGeneral_plain_apply (m := 4096) (k := 4096) (n := 2048) (φ₁ := .f32) (φ₂ := .f32) none X W r n)

end Ref

section Kernel
open Cert.KernelIdeal Cert.KernelIdeal.Gen

/-- The kernel's product of its rows with a slot of `w`, at one element. -/
theorem pay_apply (X : FVec Ideal S512x4096 .f32) (W : FVec Ideal S1x4096x512 .f32) (r : Fin 512) (n : Fin 512) :
    k0_pay1 (F := Ideal) X W (ix2 r n) = relu (dot X (shapeCast S4096x512 W Facts₀.shapeCasts_S1x4096x512_S4096x512) r n) := by
  refine congrArg relu ((Ideal.matmul_plain_apply (M := 512) (K := 4096) (N := 512) (φ₁ := .f32) (φ₂ := .f32) none X
    (shapeCast S4096x512 W Facts₀.shapeCasts_S1x4096x512_S4096x512) (constant S512x512 .f32 0x00000000#32) r n).trans ?_)
  have h0 : (constant (F := Ideal) S512x512 .f32 0x00000000#32 (ix2 r n) : EReal) = 0 := Ideal.ofBits_zero_f32
  exact (congrArg (fun t : EReal => t + _) h0).trans (zero_add _)

variable (m : (ℓ : Loc nD τ sig) → Buf (Elt Ideal) ℓ)

/-- Row `i` and column `j` of device `c`'s result: the row is row `i % 512` of device `i / 512`, the column is
    column `j` of block `c` of `w`. -/
theorem out_apply (c : Dev nD) (i : Fin 4096) (j : Fin 256) (s : Dev nD) (hs : s.val = i.val / 512) (r : Fin 512) (hr : r.val = i.val % 512)
    (n : Fin 2048) (hn : n.val = 256 * c.val + j.val) :
    KernelIdealProof.OC m c (ix2 i j) = relu (dot (M := 512) (K := 4096) (N := 2048) (KernelIdealProof.XC m s) (KernelIdealProof.BC m s) r n) := by
  have hi := i.isLt
  have hj := j.isLt
  have hc : c.val < 8 := c.isLt
  obtain rfl : s = ⟨i.val / 512, Nat.div_lt_of_lt_mul (show i.val < 512 * 8 from hi)⟩ := Fin.ext hs
  obtain rfl : r = ⟨i.val % 512, Nat.mod_lt _ (by decide)⟩ := Fin.ext hr
  refine (pay_apply _ _ _ _).trans (congrArg relu (dot_congr (fun k => rfl) fun k => ?_))
  refine (ValueIdx.shapeCast_1ab_ab_apply (a := 4096) (b := 512) _ _ k _).trans ?_
  refine congrArg (fun n => (KernelIdealProof.BC m _ (ix2 (n0 := 4096) (n1 := 2048) k n) : EReal)) (Fin.ext ?_)
  rw [hn]
  show 256 * ((i.val / 512 + (2 * (((c.val + 8 - i.val / 512) % 8 + 7) % 8 / 2) + (256 * (((c.val + 8 - i.val / 512) % 8 + 7) % 8 % 2) + j.val) / 256 + 1)) % 8)
      + (256 * (((c.val + 8 - i.val / 512) % 8 + 7) % 8 % 2) + j.val) % 256 = 256 * c.val + j.val
  omega

end Kernel

/-- Where each device has its rows of `x` and all of `w`, device `c`'s result is block `c` of the columns of the
    reference's. -/
theorem out_block (m : (ℓ : Loc Cert.KernelIdeal.nD Cert.KernelIdeal.τ Cert.KernelIdeal.sig) → Buf (Elt Ideal) ℓ)
    (X : FVec Ideal ⟨2, ![4096, 4096]⟩ .f32) (W : FVec Ideal ⟨2, ![4096, 2048]⟩ .f32)
    (hX : ∀ c : Dev Cert.KernelIdeal.nD, KernelIdealProof.XC m c = Layout.block ⟨2, ![512, 4096]⟩ ⟨2, ![4096, 4096]⟩ 0 8 c X)
    (hW : ∀ c : Dev Cert.KernelIdeal.nD, KernelIdealProof.BC m c = W) (c : Dev Cert.KernelIdeal.nD) :
    KernelIdealProof.OC m c = Layout.block ⟨2, ![4096, 256]⟩ ⟨2, ![4096, 2048]⟩ 1 8 c (whole X W) := by
  funext i
  have hc : c.val < 8 := c.isLt
  obtain ⟨r, j, rfl⟩ : ∃ (r : Fin 4096) (j : Fin 256), i = ix2 r j := ⟨i 0, i 1, eq_ix2 i⟩
  have hr := r.isLt
  have hj := j.isLt
  have hn : 256 * c.val + j.val < 2048 := by omega
  have hs : r.val / 512 < 8 := by omega
  have hR : (Layout.block ⟨2, ![4096, 256]⟩ ⟨2, ![4096, 2048]⟩ 1 8 c (whole X W) : _) (ix2 r j) = whole X W (ix2 r ⟨256 * c.val + j.val, hn⟩) := by
    shard_ext
  refine (out_apply m c r j ⟨r.val / 512, hs⟩ rfl ⟨r.val % 512, Nat.mod_lt _ (by decide)⟩ rfl ⟨256 * c.val + j.val, hn⟩ rfl).trans ?_
  refine Eq.trans ?_ hR.symm
  refine Eq.trans ?_ (whole_apply X W r _).symm
  rw [hX, hW]
  refine congrArg relu (dot_congr (fun k => ?_) fun k => rfl)
  shard_ext

end Cert.Values

end
-- ==== Proof.lean ====
/-
The five claims put together. The kernel's runs are `KMain` and `IMain`, the reference's run is generated, and
`Values` says that what they leave agrees.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IMain
public import proofs.«01_k».proof.Proof.KMain
public import proofs.«01_k».proof.Proof.Values
public import Idealize.ShloMosaic.Adequacy
public import Idealize.ShloMosaic.Init

@[expose] public section

noncomputable section

namespace Cert.Proof

open Idealize.ShloMosaic Idealize.SL.Sem

/-- The kernel ends with its arguments unchanged and every counter at zero. -/
theorem frame_kernel : Cert.quiescent_Kernel := fun m g _ =>
  (θ_run Cert.Kernel.defs _ _).mono (fun _ h => ⟨fun c => (h.1 c).2, h.2⟩) (Cert.KernelProof.run_main (F := Bits) m g)

/-- So does its idealization. -/
theorem frame_ideal : Cert.quiescent_KernelIdeal := fun m g _ =>
  (θ_run Cert.KernelIdeal.defs _ _).mono (fun _ h => ⟨fun c => (h.1 c).2, h.2⟩) (Cert.KernelIdealProof.run_main (F := Ideal) m g)

/-- So does the reference, which has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From matching arguments, every device's result is its block of columns of the reference's result. -/
theorem value : Cert.algebraic_KernelIdeal_ReferenceIdeal := by
  intro m g m' g' _ hagree
  refine ⟨Cert.Values.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.Values.out_block m _ _ (fun c => (hagree c).1) (fun c => (hagree c).2) c), (h.1 c).2⟩)
      (Cert.KernelIdealProof.run_main (F := Ideal) m g)
  · exact (θ_run Cert.ReferenceIdeal.defs _ _).mono (fun _ h => h 0) (Cert.ReferenceIdeal.Value.run (F := Ideal) m' g')

/-- Everything the certificate claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
